-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_w_finite [hPre_norm_w_finite : Cert.Pre_norm_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_norm_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_w_finite [hPre_norm_w_finite : Cert.Pre_norm_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_norm_w_finite [hKernelIdeal : Cert.KernelIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_w_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_norm_w_finite [hReferenceIdeal : Cert.ReferenceIdeal.Facts] [hPre_norm_w_finite : Cert.Pre_norm_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.PackStatement Cert.KernelIdeal.S128x128
  ∧ IdealRules.bf16_pair.Statement Cert.KernelIdeal.S128x2x128 Cert.KernelIdeal.S128x1x128

def algebraic_KernelIdeal_ReferenceIdeal_pre_norm_w_finite [hKernelIdeal : Cert.KernelIdeal.Facts] [hReferenceIdeal : Cert.ReferenceIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_norm_w_finite : Cert.Pre_norm_w_finite.Facts),
    quiescent_Kernel (hKernel := hKernel)
    ∧ quiescent_KernelIdeal (hKernelIdeal := hKernelIdeal)
    ∧ quiescent_KernelIdeal_pre_norm_w_finite (hKernelIdeal := hKernelIdeal) (hPre_norm_w_finite := hPre_norm_w_finite)
    ∧ quiescent_ReferenceIdeal (hReferenceIdeal := hReferenceIdeal)
    ∧ quiescent_ReferenceIdeal_pre_norm_w_finite (hReferenceIdeal := hReferenceIdeal) (hPre_norm_w_finite := hPre_norm_w_finite)
    ∧ preserves_Kernel_KernelIdeal
    ∧ algebraic_KernelIdeal_ReferenceIdeal_pre_norm_w_finite (hKernelIdeal := hKernelIdeal) (hReferenceIdeal := hReferenceIdeal) (hPre_norm_w_finite := hPre_norm_w_finite)
-- ==== Pre_norm_w_finite.lean ====
abbrev S3x384x4096 : Shape := ⟨3, ![3, 384, 4096]⟩
abbrev S4096 : Shape := ⟨1, ![4096]⟩
abbrev S4096x6144 : Shape := ⟨2, ![4096, 6144]⟩
abbrev S6144 : Shape := ⟨1, ![6144]⟩
abbrev S128 : Shape := ⟨1, ![128]⟩
abbrev S3x384 : Shape := ⟨2, ![3, 384]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S3x384x4096 .bf16) (main_arg1 : FVec F S4096 .f32) (main_arg2 : FVec F S4096x6144 .fp8e4m3) (main_arg3 : FVec F S6144 .f32) (main_arg4 : FVec F S128 .f32) (main_arg5 : FVec F S128 .f32) (main_arg6 : IVec S3x384 32) : IVec S4096 1 :=
  let main_v0 : FVec F S4096 .f32 := Host.absf main_arg1
  let main_cst : FVec F S_ .f32 := constant S_ .f32 0x7F7FFFFF#32
  let main_v1 : FVec F S4096 .f32 := broadcastInDim S4096 ![] bcast_S_S4096 main_cst
  let main_v2 : IVec S4096 1 := cmpf .ole main_v0 main_v1
  main_v2
-- ==== Kernel.lean ====
abbrev S3x384x4096 : Shape := ⟨3, ![3, 384, 4096]⟩
abbrev S4096 : Shape := ⟨1, ![4096]⟩
abbrev S4096x6144 : Shape := ⟨2, ![4096, 6144]⟩
abbrev S6144 : Shape := ⟨1, ![6144]⟩
abbrev S128 : Shape := ⟨1, ![128]⟩
abbrev S3x384 : Shape := ⟨2, ![3, 384]⟩
abbrev S1x128 : Shape := ⟨2, ![1, 128]⟩
abbrev S1152x4096 : Shape := ⟨2, ![1152, 4096]⟩
abbrev S1x4096 : Shape := ⟨2, ![1, 4096]⟩
abbrev S1x6144 : Shape := ⟨2, ![1, 6144]⟩
abbrev S9x1x128 : Shape := ⟨3, ![9, 1, 128]⟩
abbrev S1152x32x128 : Shape := ⟨3, ![1152, 32, 128]⟩
abbrev S1152x8x128 : Shape := ⟨3, ![1152, 8, 128]⟩
abbrev S128x4096 : Shape := ⟨2, ![128, 4096]⟩
abbrev S1x1x128 : Shape := ⟨3, ![1, 1, 128]⟩
abbrev S128x32x128 : Shape := ⟨3, ![128, 32, 128]⟩
abbrev S128x8x128 : Shape := ⟨3, ![128, 8, 128]⟩
abbrev S128x128 : Shape := ⟨2, ![128, 128]⟩
abbrev S128x1 : Shape := ⟨2, ![128, 1]⟩
abbrev S4096x512 : Shape := ⟨2, ![4096, 512]⟩
abbrev S128x512 : Shape := ⟨2, ![128, 512]⟩
abbrev S128x16x128 : Shape := ⟨3, ![128, 16, 128]⟩
abbrev S2048x128 : Shape := ⟨2, ![2048, 128]⟩
abbrev S128x2x128 : Shape := ⟨3, ![128, 2, 128]⟩
abbrev S128x1x128 : Shape := ⟨3, ![128, 1, 128]⟩
abbrev S128x4x128 : Shape := ⟨3, ![128, 4, 128]⟩
abbrev S512x128 : Shape := ⟨2, ![512, 128]⟩

abbrev nBuf : Space → Nat
  | .hbm => 20
  | .vmem => 20
  | .smem => 0
  | _ => 0

abbrev bufTy : (tb : Table) → Fin (tcTables nBuf tb) → BufTy
  | .hbm, ⟨0, _⟩ => ⟨S3x384x4096, .bf16⟩
  | .hbm, ⟨1, _⟩ => ⟨S4096, .f32⟩
  | .hbm, ⟨2, _⟩ => ⟨S4096x6144, .fp8e4m3⟩
  | .hbm, ⟨3, _⟩ => ⟨S6144, .f32⟩
  | .hbm, ⟨4, _⟩ => ⟨S128, .f32⟩
  | .hbm, ⟨5, _⟩ => ⟨S128, .f32⟩
  | .hbm, ⟨6, _⟩ => ⟨S3x384, .i32⟩
  | .hbm, ⟨7, _⟩ => ⟨S128, .f32⟩
  | .hbm, ⟨8, _⟩ => ⟨S1x128, .f32⟩
  | .hbm, ⟨9, _⟩ => ⟨S1152x4096, .bf16⟩
  | .hbm, ⟨10, _⟩ => ⟨S1x4096, .f32⟩
  | .hbm, ⟨11, _⟩ => ⟨S1x6144, .f32⟩
  | .hbm, ⟨12, _⟩ => ⟨S1x128, .f32⟩
  | .hbm, ⟨13, _⟩ => ⟨S1x128, .f32⟩
  | .hbm, ⟨14, _⟩ => ⟨S9x1x128, .i32⟩
  | .hbm, ⟨15, _⟩ => ⟨S1152x32x128, .bf16⟩
  | .hbm, ⟨16, _⟩ => ⟨S1152x8x128, .bf16⟩
  | .hbm, ⟨17, _⟩ => ⟨S1152x8x128, .bf16⟩
  | .hbm, ⟨18, _⟩ => ⟨S1152x4096, .fp8e4m3⟩
  | .hbm, ⟨19, _⟩ => ⟨S9x1x128, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S4096x6144, .fp8e4m3⟩
  | .local _ .vmem, ⟨4, _⟩ => ⟨S1x6144, .f32⟩
  | .local _ .vmem, ⟨5, _⟩ => ⟨S1x128, .f32⟩
  | .local _ .vmem, ⟨6, _⟩ => ⟨S1x128, .f32⟩
  | .local _ .vmem, ⟨7, _⟩ => ⟨S1x1x128, .i32⟩
  | .local _ .vmem, ⟨8, _⟩ => ⟨S1x1x128, .i32⟩
  | .local _ .vmem, ⟨9, _⟩ => ⟨S1x128, .f32⟩
  | .local _ .vmem, ⟨10, _⟩ => ⟨S128x32x128, .bf16⟩
  | .local _ .vmem, ⟨11, _⟩ => ⟨S128x32x128, .bf16⟩
  | .local _ .vmem, ⟨12, _⟩ => ⟨S128x8x128, .bf16⟩
  | .local _ .vmem, ⟨13, _⟩ => ⟨S128x8x128, .bf16⟩
  | .local _ .vmem, ⟨14, _⟩ => ⟨S128x8x128, .bf16⟩
  | .local _ .vmem, ⟨15, _⟩ => ⟨S128x8x128, .bf16⟩
  | .local _ .vmem, ⟨16, _⟩ => ⟨S128x4096, .fp8e4m3⟩
  | .local _ .vmem, ⟨17, _⟩ => ⟨S128x4096, .fp8e4m3⟩
  | .local _ .vmem, ⟨18, _⟩ => ⟨S1x1x128, .f32⟩
  | .local _ .vmem, ⟨19, _⟩ => ⟨S1x1x128, .f32⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [BitOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x8x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x8x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F]
-- ==== ReferenceIdeal.lean ====
abbrev S3x384x4096 : Shape := ⟨3, ![3, 384, 4096]⟩
abbrev S4096 : Shape := ⟨1, ![4096]⟩
abbrev S4096x6144 : Shape := ⟨2, ![4096, 6144]⟩
abbrev S6144 : Shape := ⟨1, ![6144]⟩
abbrev S128 : Shape := ⟨1, ![128]⟩
abbrev S3x384 : Shape := ⟨2, ![3, 384]⟩
abbrev S64 : Shape := ⟨1, ![64]⟩
abbrev S1x64 : Shape := ⟨2, ![1, 64]⟩
abbrev S1152x4096 : Shape := ⟨2, ![1152, 4096]⟩
abbrev S1x4096 : Shape := ⟨2, ![1, 4096]⟩
abbrev S1x6144 : Shape := ⟨2, ![1, 6144]⟩
abbrev S1x128 : Shape := ⟨2, ![1, 128]⟩
abbrev S1152x1 : Shape := ⟨2, ![1152, 1]⟩
abbrev S1152x32x128 : Shape := ⟨3, ![1152, 32, 128]⟩
abbrev S1152x8x128 : Shape := ⟨3, ![1152, 8, 128]⟩
abbrev S9x1x128 : Shape := ⟨3, ![9, 1, 128]⟩
abbrev S1152 : Shape := ⟨1, ![1152]⟩
abbrev S1152x6144 : Shape := ⟨2, ![1152, 6144]⟩
abbrev S1152x1024 : Shape := ⟨2, ![1152, 1024]⟩
abbrev S1x1x128 : Shape := ⟨3, ![1, 1, 128]⟩
abbrev S1152x32 : Shape := ⟨2, ![1152, 32]⟩
abbrev S1152x32x1 : Shape := ⟨3, ![1152, 32, 1]⟩
abbrev S1152x8 : Shape := ⟨2, ![1152, 8]⟩
abbrev S1152x8x1 : Shape := ⟨3, ![1152, 8, 1]⟩
abbrev S1152x64 : Shape := ⟨2, ![1152, 64]⟩
abbrev S1152x1x64 : Shape := ⟨3, ![1152, 1, 64]⟩
abbrev S1152x32x64 : Shape := ⟨3, ![1152, 32, 64]⟩
abbrev S1152x8x64 : Shape := ⟨3, ![1152, 8, 64]⟩

abbrev nBuf : Space → Nat
  | .hbm => 20
  | .vmem => 13
  | .smem => 0
  | _ => 0

abbrev bufTy : (tb : Table) → Fin (tcTables nBuf tb) → BufTy
  | .hbm, ⟨0, _⟩ => ⟨S3x384x4096, .bf16⟩
  | .hbm, ⟨1, _⟩ => ⟨S4096, .f32⟩
  | .hbm, ⟨2, _⟩ => ⟨S4096x6144, .fp8e4m3⟩
  | .hbm, ⟨3, _⟩ => ⟨S6144, .f32⟩
  | .hbm, ⟨4, _⟩ => ⟨S128, .f32⟩
  | .hbm, ⟨5, _⟩ => ⟨S128, .f32⟩
  | .hbm, ⟨6, _⟩ => ⟨S3x384, .i32⟩
  | .hbm, ⟨7, _⟩ => ⟨S64, .f32⟩
  | .hbm, ⟨8, _⟩ => ⟨S1x64, .f32⟩
  | .hbm, ⟨9, _⟩ => ⟨S1152x4096, .bf16⟩
  | .hbm, ⟨10, _⟩ => ⟨S1x4096, .f32⟩
  | .hbm, ⟨11, _⟩ => ⟨S1x6144, .f32⟩
  | .hbm, ⟨12, _⟩ => ⟨S1x128, .f32⟩
  | .hbm, ⟨13, _⟩ => ⟨S1x128, .f32⟩
  | .hbm, ⟨14, _⟩ => ⟨S1152x1, .i32⟩
  | .hbm, ⟨15, _⟩ => ⟨S1152x32x128, .bf16⟩
  | .hbm, ⟨16, _⟩ => ⟨S1152x8x128, .bf16⟩
  | .hbm, ⟨17, _⟩ => ⟨S1152x8x128, .bf16⟩
  | .hbm, ⟨18, _⟩ => ⟨S1152x4096, .fp8e4m3⟩
  | .hbm, ⟨19, _⟩ => ⟨S9x1x128, .f32⟩
  | .local _ .vmem, ⟨0, _⟩ => ⟨S1152x4096, .bf16⟩
  | .local _ .vmem, ⟨1, _⟩ => ⟨S1x4096, .f32⟩
  | .local _ .vmem, ⟨2, _⟩ => ⟨S4096x6144, .fp8e4m3⟩
  | .local _ .vmem, ⟨3, _⟩ => ⟨S1x6144, .f32⟩
  | .local _ .vmem, ⟨4, _⟩ => ⟨S1x128, .f32⟩
  | .local _ .vmem, ⟨5, _⟩ => ⟨S1x128, .f32⟩
  | .local _ .vmem, ⟨6, _⟩ => ⟨S1152x1, .i32⟩
  | .local _ .vmem, ⟨7, _⟩ => ⟨S1x64, .f32⟩
  | .local _ .vmem, ⟨8, _⟩ => ⟨S1152x32x128, .bf16⟩
  | .local _ .vmem, ⟨9, _⟩ => ⟨S1152x8x128, .bf16⟩
  | .local _ .vmem, ⟨10, _⟩ => ⟨S1152x8x128, .bf16⟩
  | .local _ .vmem, ⟨11, _⟩ => ⟨S1152x4096, .fp8e4m3⟩
  | .local _ .vmem, ⟨12, _⟩ => ⟨S9x1x128, .f32⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1152x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1152x32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1152x8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1152x8x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1152x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S9x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Exponent.lean ====
/- The exponent of the quantiser's scale, two ways: the kernel searches the exponent field bit by bit among the powers
   of two, the reference takes the floor of a logarithm. On `[0, 2^126)` they agree, and so do the scale and its inverse. -/
module

public import Idealize.ShloMosaic.PureOps.Ideal
public import Idealize.ShloMosaic.Lib.Pointwise
public import Mathlib.Analysis.SpecialFunctions.Log.Basic
public import Mathlib.Analysis.SpecialFunctions.Pow.Real

@[expose] public section

noncomputable section

namespace Cert.Proof

open Idealize.ShloMosaic

/-- The f32 whose exponent field is `n` and whose other bits are zero. -/
def thr (n : ℕ) : EReal := Ideal.ofBits .f32 (BitVec.ofNat 32 n <<< 23)

theorem field_bits : ∀ n : Fin 256,
    ((BitVec.ofNat 32 n.val <<< 23).extractLsb' 31 1 == 1#1) = false
      ∧ ((BitVec.ofNat 32 n.val <<< 23).extractLsb' 23 8).toNat = n.val
      ∧ ((BitVec.ofNat 32 n.val <<< 23).extractLsb' 0 23).toNat = 0 := by
  decide +kernel

/-- A positive normal f32 with an empty fraction. -/
theorem ieee_normal (b : BitVec 32) (n : ℕ) (hs : (b.extractLsb' 31 1 == 1#1) = false)
    (he : (b.extractLsb' 23 8).toNat = n) (hf : (b.extractLsb' 0 23).toNat = 0) (e1 : ¬ n = 2 ^ 8 - 1) (e2 : ¬ n = 0) :
    Ideal.ieee 8 23 b = (((2 : ℝ) ^ 23 * (2 : ℝ) ^ ((n : ℤ) - 150) : ℝ) : EReal) := by
  have key : Ideal.ieee 8 23 b = (((if (b.extractLsb' (8 + 23) 1 == 1#1) = true then (-1 : ℝ) else 1)
      * ((2 ^ 23 + (b.extractLsb' 0 23).toNat : ℕ) : ℝ)
      * (2 : ℝ) ^ (((b.extractLsb' 23 8).toNat : ℤ) - (2 ^ (8 - 1) - 1) - (23 : ℕ)) : ℝ) : EReal) := by
    unfold Ideal.ieee
    rw [he]
    exact (if_neg e1).trans (if_neg e2)
  rw [key, he, hf]
  refine EReal.coe_eq_coe_iff.mpr ?_
  have hs' : ¬ (b.extractLsb' (8 + 23) 1 == 1#1) = true := by
    intro h; rw [show (b.extractLsb' (8 + 23) 1 == 1#1) = false from hs] at h; exact Bool.noConfusion h
  rw [if_neg hs', one_mul]
  congr 1
  · push_cast; ring
  · congr 1
    push_cast; ring

/-- A field between 1 and 254 is the power of two `2 ^ (n - 127)`. -/
theorem thr_pos (n : ℕ) (h1 : 1 ≤ n) (h2 : n ≤ 254) : thr n = (((2 : ℝ) ^ ((n : ℤ) - 127) : ℝ) : EReal) := by
  have hb := field_bits ⟨n, by omega⟩
  have e1 : ¬ n = 2 ^ 8 - 1 := by intro h; norm_num at h; omega
  have e2 : ¬ n = 0 := by intro h; omega
  have h := ieee_normal _ n hb.1 hb.2.1 hb.2.2 e1 e2
  refine Eq.trans (show thr n = _ from h) (EReal.coe_eq_coe_iff.mpr ?_)
  rw [← zpow_natCast, ← zpow_add₀ (by norm_num : (2 : ℝ) ≠ 0)]
  exact congrArg _ (by push_cast; ring)

theorem thr_zero : thr 0 = 0 := by
  simp [thr, Ideal.ofBits, Ideal.ieee]

theorem thr_top : thr 255 = ⊤ := by
  obtain ⟨hs, he, hf⟩ := field_bits ⟨255, by omega⟩
  simp only at hs he hf
  simp [thr, Ideal.ofBits, Ideal.ieee, hs, he, hf]

theorem shl23 (w : BitVec 32) : IntOp.shli .vector w 23#32 = w <<< 23 := by
  rw [IntOp.shli, if_pos (by decide)]; rfl

/-- One step of the search: keep the bit `b` of the field unless the value is below the power of two it would give. -/
def fieldStep (a : EReal) (w b : BitVec 32) : BitVec 32 :=
  if a < Ideal.ofBits .f32 (IntOp.shli .vector (IntOp.addi w b) 23#32) then w else IntOp.addi w b

/-- The eight steps. -/
def fieldOf (a : EReal) : BitVec 32 :=
  fieldStep a (fieldStep a (fieldStep a (fieldStep a (fieldStep a (fieldStep a (fieldStep a
    (fieldStep a 0#32 128#32) 64#32) 32#32) 16#32) 8#32) 4#32) 2#32) 1#32

/-- What the search keeps: the value is at least the power of two found, and below the one `b` further on. -/
def Found (a : EReal) (w : BitVec 32) (b : ℕ) : Prop :=
  ∃ n, w = BitVec.ofNat 32 n ∧ n + b ≤ 256 ∧ thr n ≤ a ∧ (n + b = 256 ∨ a < thr (n + b))

theorem fieldStep_found (a : EReal) (w : BitVec 32) (b : ℕ) (h : Found a w (2 * b)) :
    Found a (fieldStep a w (BitVec.ofNat 32 b)) b := by
  obtain ⟨n, rfl, hn, hlo, hhi⟩ := h
  have e : IntOp.addi (BitVec.ofNat 32 n) (BitVec.ofNat 32 b) = BitVec.ofNat 32 (n + b) := by
    simp [IntOp.addi, BitVec.ofNat_add]
  have e2 : Ideal.ofBits .f32 (IntOp.shli .vector (BitVec.ofNat 32 (n + b)) 23#32) = thr (n + b) := by
    rw [shl23, thr]
  unfold fieldStep
  rw [e, e2]
  split
  · next hlt => exact ⟨n, rfl, by omega, hlo, .inr hlt⟩
  · next hge =>
    refine ⟨n + b, rfl, by omega, not_lt.mp hge, ?_⟩
    rcases hhi with h | h
    · exact .inl (by omega)
    · exact .inr (by rwa [show n + b + b = n + 2 * b by ring])

/-- The field found for a value in `[0, 2^126)`. -/
theorem fieldOf_spec (a : EReal) (h0 : 0 ≤ a) (h1 : a < thr 253) :
    ∃ n ≤ 252, fieldOf a = BitVec.ofNat 32 n ∧ thr n ≤ a ∧ a < thr (n + 1) := by
  have s0 : Found a 0#32 (2 * 128) := ⟨0, rfl, by norm_num, by rwa [thr_zero], .inl rfl⟩
  have s1 := fieldStep_found a _ 128 s0
  have s2 := fieldStep_found a _ 64 s1
  have s3 := fieldStep_found a _ 32 s2
  have s4 := fieldStep_found a _ 16 s3
  have s5 := fieldStep_found a _ 8 s4
  have s6 := fieldStep_found a _ 4 s5
  have s7 := fieldStep_found a _ 2 s6
  obtain ⟨n, hw, hn, hlo, hhi⟩ := fieldStep_found a _ 1 s7
  have hn252 : n ≤ 252 := by
    by_contra hc
    have h253 : thr 253 ≤ thr n := by
      rcases (by omega : n = 253 ∨ n = 254 ∨ n = 255) with rfl | rfl | rfl
      · exact le_rfl
      · rw [thr_pos 253 (by omega) (by omega), thr_pos 254 (by omega) (by omega), EReal.coe_le_coe_iff]
        exact zpow_le_zpow_right₀ (by norm_num) (by norm_num)
      · rw [thr_top]; exact le_top
    exact absurd (h1.trans_le (h253.trans hlo)) (lt_irrefl _)
  refine ⟨n, hn252, hw, hlo, ?_⟩
  rcases hhi with h | h
  · omega
  · exact h

/-- The kernel's exponent: the field less 126, and 0 for a subnormal. -/
def expWord (f : BitVec 32) : BitVec 32 := if f = 0#32 then 0#32 else IntOp.subi f 126#32

/-- The reference's exponent: one more than the floor of the binary logarithm, and 0 for a subnormal. -/
def refExp (a : EReal) : EReal :=
  if a < Ideal.ofBits .f32 0x00800000#32 then Ideal.ofBits .f32 0x00000000#32
  else Ideal.liftRound Int.floor (Ideal.div (Ideal.log a) (Ideal.log (Ideal.ofBits .f32 0x40000000#32)))
    + Ideal.ofBits .f32 0x3F800000#32

theorem ofBits_one : Ideal.ofBits .f32 0x3F800000#32 = ((1 : ℝ) : EReal) := by
  have := thr_pos 127 (by omega) (by omega)
  simpa [thr] using this

theorem ofBits_two : Ideal.ofBits .f32 0x40000000#32 = ((2 : ℝ) : EReal) := by
  have := thr_pos 128 (by omega) (by omega)
  simpa [thr] using this

theorem words_sub : ∀ n : Fin 253, BitVec.ofNat 32 n.val - 126#32 = BitVec.ofInt 32 ((n.val : ℤ) - 126) := by
  decide +kernel

theorem words_ne : ∀ n : Fin 253, 0 < n.val → ¬ BitVec.ofNat 32 n.val = 0#32 := by
  decide +kernel

theorem words_scale : ∀ i : Fin 252,
    BitVec.ofInt 32 ((i.val : ℤ) - 125) + 127#32 = BitVec.ofNat 32 ((i.val : ℤ) - 125 + 127).toNat := by
  decide +kernel

theorem words_inv : ∀ i : Fin 252,
    0#32 - BitVec.ofInt 32 ((i.val : ℤ) - 125) + 127#32 = BitVec.ofNat 32 (127 - ((i.val : ℤ) - 125)).toNat := by
  decide +kernel

/-- The two exponents of one value: the word the kernel holds and the number the reference holds. -/
theorem exponents (a : EReal) (h0 : 0 ≤ a) (h1 : a < thr 253) :
    ∃ e : ℤ, -125 ≤ e ∧ e ≤ 126 ∧ expWord (fieldOf a) = BitVec.ofInt 32 e ∧ refExp a = ((e : ℝ) : EReal) := by
  obtain ⟨n, hn, hf, hlo, hhi⟩ := fieldOf_spec a h0 h1
  rcases Nat.eq_zero_or_pos n with rfl | hpos
  · refine ⟨0, by omega, by omega, ?_, ?_⟩
    · rw [hf]; decide
    · have : a < Ideal.ofBits .f32 0x00800000#32 := by simpa [thr] using hhi
      rw [refExp, if_pos this, Ideal.ofBits_zero .f32]; simp
  · refine ⟨(n : ℤ) - 126, by omega, by omega, ?_, ?_⟩
    · rw [hf, expWord, if_neg, IntOp.subi]
      · exact words_sub ⟨n, by omega⟩
      · exact words_ne ⟨n, by omega⟩ hpos
    · rw [thr_pos n (by omega) (by omega)] at hlo
      rw [thr_pos (n + 1) (by omega) (by omega)] at hhi
      have hnot : ¬ a < Ideal.ofBits .f32 0x00800000#32 := by
        rw [not_lt]
        refine le_trans ?_ hlo
        have : Ideal.ofBits .f32 0x00800000#32 = (((2 : ℝ) ^ ((1 : ℕ) - 127 : ℤ) : ℝ) : EReal) := by
          have := thr_pos 1 (by omega) (by omega)
          simpa [thr] using this
        rw [this, EReal.coe_le_coe_iff]
        exact zpow_le_zpow_right₀ (by norm_num) (by omega)
      rw [refExp, if_neg hnot, ofBits_one, ofBits_two]
      induction a with
      | bot => simp at hlo
      | top => simp at hhi
      | coe r =>
        rw [EReal.coe_le_coe_iff] at hlo
        rw [EReal.coe_lt_coe_iff] at hhi
        have hr : 0 < r := lt_of_lt_of_le (by positivity) hlo
        have l2 : Ideal.log ((2 : ℝ) : EReal) = ((Real.log 2 : ℝ) : EReal) := by
          rw [Ideal.log_coe, if_neg (by norm_num)]
        have lr : Ideal.log ((r : ℝ) : EReal) = ((Real.log r : ℝ) : EReal) := by
          rw [Ideal.log_coe, if_neg (not_le.mpr hr)]
        have hl2 : Real.log 2 ≠ 0 := (Real.log_pos (by norm_num)).ne'
        rw [l2, lr, Ideal.div_coe hl2, ← EReal.coe_mul]
        have hfl : ⌊Real.log r * (1 / Real.log 2)⌋ = (n : ℤ) - 127 := by
          have p2 : 0 < Real.log 2 := Real.log_pos (by norm_num)
          rw [mul_one_div, Int.floor_eq_iff]
          constructor
          · rw [le_div_iff₀ p2]
            have := Real.log_le_log (by positivity) hlo
            rwa [Real.log_zpow] at this
          · rw [div_lt_iff₀ p2]
            have := Real.log_lt_log hr hhi
            rw [Real.log_zpow] at this
            have e : (((n : ℤ) - 127 : ℤ) : ℝ) + 1 = (((n + 1 : ℕ) : ℤ) - 127 : ℤ) := by push_cast; ring
            rwa [e]
        rw [Ideal.liftRound_coe, hfl, ← EReal.coe_add]
        congr 1
        push_cast; ring

/-- The scale `2 ^ e`: the kernel builds its bits from the exponent, the reference raises 2 to it. -/
theorem scale_eq (a : EReal) (h0 : 0 ≤ a) (h1 : a < thr 253) :
    Ideal.ofBits .f32 (IntOp.shli .vector (IntOp.addi (expWord (fieldOf a)) 127#32) 23#32) = Ideal.exp2 (refExp a) := by
  obtain ⟨e, l, u, hw, hr⟩ := exponents a h0 h1
  have e1 : IntOp.addi (BitVec.ofInt 32 e) 127#32 = BitVec.ofNat 32 (e + 127).toNat := by
    have := words_scale ⟨(e + 125).toNat, by omega⟩
    simp only [show (((e + 125).toNat : ℕ) : ℤ) - 125 = e by omega] at this
    exact this
  have e2 : Ideal.ofBits .f32 (IntOp.shli .vector (BitVec.ofNat 32 (e + 127).toNat) 23#32) = thr (e + 127).toNat := by
    rw [shl23, thr]
  rw [hw, hr, e1, e2, thr_pos _ (by omega) (by omega)]
  rw [Ideal.exp2_coe]
  refine (EReal.coe_eq_coe_iff).mpr ?_
  rw [Int.toNat_of_nonneg (by omega)]
  rw [show Real.rpow 2 (e : ℝ) = (2 : ℝ) ^ (e : ℝ) from rfl, Real.rpow_intCast]
  congr 1; ring

/-- The inverse scale `2 ^ (-e)`, likewise. -/
theorem inv_eq (a : EReal) (h0 : 0 ≤ a) (h1 : a < thr 253) :
    Ideal.ofBits .f32 (IntOp.shli .vector (IntOp.addi (IntOp.subi 0#32 (expWord (fieldOf a))) 127#32) 23#32)
      = Ideal.exp2 (Ideal.ofBits .f32 0x00000000#32 - refExp a) := by
  obtain ⟨e, l, u, hw, hr⟩ := exponents a h0 h1
  have e1 : IntOp.addi (IntOp.subi 0#32 (BitVec.ofInt 32 e)) 127#32 = BitVec.ofNat 32 (127 - e).toNat := by
    have := words_inv ⟨(e + 125).toNat, by omega⟩
    simp only [show (((e + 125).toNat : ℕ) : ℤ) - 125 = e by omega] at this
    exact this
  have e2 : Ideal.ofBits .f32 (IntOp.shli .vector (BitVec.ofNat 32 (127 - e).toNat) 23#32) = thr (127 - e).toNat := by
    rw [shl23, thr]
  rw [hw, hr, e1, e2, thr_pos _ (by omega) (by omega), Ideal.ofBits_zero .f32, zero_sub, ← EReal.coe_neg]
  rw [Ideal.exp2_coe]
  refine (EReal.coe_eq_coe_iff).mpr ?_
  rw [Int.toNat_of_nonneg (by omega)]
  rw [show Real.rpow 2 (-(e : ℝ)) = (2 : ℝ) ^ (-(e : ℝ)) from rfl, ← Int.cast_neg, Real.rpow_intCast]
  congr 1; ring

end Cert.Proof

end
-- ==== Proof.Norm.lean ====
/- One row of the block: its root-mean-square normalisation, its scale and its codes, as the kernel computes them and as
   the reference does. The normalised rows are equal whatever the operands are; the scale and the codes are equal when the
   weights are finite, which bounds the largest normalised entry below the values the exponent search is right for. -/
module

public import proofs.«01_k».proof.Proof.Exponent

@[expose] public section

noncomputable section

namespace Cert.Proof

open Idealize.ShloMosaic

/-- The kernel's normalised row. -/
def nrmK (x w : Fin 4096 → EReal) (j : Fin 4096) : EReal :=
  x j * Ideal.rsqrt ((∑ k, x k * x k) * Ideal.ofBits .f32 0x39800000#32 + Ideal.ofBits .f32 0x3727C5AC#32) * w j

/-- The reference's normalised row. -/
def nrmR (x w : Fin 4096 → EReal) (j : Fin 4096) : EReal :=
  x j * Ideal.rsqrt (Ideal.div (∑ k, x k * x k) (Ideal.ofBits .f32 0x45800000#32) + Ideal.ofBits .f32 0x3727C5AC#32) * w j

/-- The largest absolute entry of a row. -/
def amax (n : Fin 4096 → EReal) : EReal :=
  Finset.fold max (Ideal.ofBits .f32 0xFF800000#32) (fun k => FloatOps.absf (F := Ideal) (φ := .f32) (n k)) Finset.univ

/-- The largest entry over the format's largest value. -/
def peak (n : Fin 4096 → EReal) : EReal := amax n * Ideal.ofBits .f32 0x3B124925#32

/-- The kernel's scale of a row. -/
def scaleK (n : Fin 4096 → EReal) : EReal :=
  Ideal.ofBits .f32 (IntOp.shli .vector (IntOp.addi (expWord (fieldOf (peak n))) 127#32) 23#32)

/-- The reference's scale of a row. -/
def scaleR (n : Fin 4096 → EReal) : EReal := Ideal.exp2 (refExp (peak n))

/-- An entry times the inverse scale, clipped to the format's range. -/
def clip (n inv : EReal) : EReal :=
  min (Ideal.ofBits .f32 0x43E00000#32) (max (Ideal.ofBits .f32 0xC3E00000#32) (n * inv))

/-- The kernel's codes of a row. -/
def codeK (n : Fin 4096 → EReal) (j : Fin 4096) : EReal :=
  clip (n j) (Ideal.ofBits .f32 (IntOp.shli .vector (IntOp.addi (IntOp.subi 0#32 (expWord (fieldOf (peak n)))) 127#32) 23#32))

/-- The reference's codes of a row. -/
def codeR (n : Fin 4096 → EReal) (j : Fin 4096) : EReal :=
  clip (n j) (Ideal.exp2 (Ideal.ofBits .f32 0x00000000#32 - refExp (peak n)))

/-! ### The constants -/

theorem ofBits_4096 : Ideal.ofBits .f32 0x45800000#32 = ((4096 : ℝ) : EReal) := by
  have h := thr_pos 139 (by omega) (by omega)
  have e : ((2 : ℝ) ^ (((139 : ℕ) : ℤ) - 127)) = 4096 := by norm_num
  rw [e] at h; exact h

theorem ofBits_inv4096 : Ideal.ofBits .f32 0x39800000#32 = ((1 / 4096 : ℝ) : EReal) := by
  have h := thr_pos 115 (by omega) (by omega)
  have e : ((2 : ℝ) ^ (((115 : ℕ) : ℤ) - 127)) = 1 / 4096 := by norm_num
  rw [e] at h; exact h

theorem ofBits_128 : Ideal.ofBits .f32 0x43000000#32 = ((128 : ℝ) : EReal) := by
  have h := thr_pos 134 (by omega) (by omega)
  have e : ((2 : ℝ) ^ (((134 : ℕ) : ℤ) - 127)) = 128 := by norm_num
  rw [e] at h; exact h

theorem ofBits_inv128 : Ideal.ofBits .f32 0x3C000000#32 = ((1 / 128 : ℝ) : EReal) := by
  have h := thr_pos 120 (by omega) (by omega)
  have e : ((2 : ℝ) ^ (((120 : ℕ) : ℤ) - 127)) = 1 / 128 := by norm_num
  rw [e] at h; exact h

/-- Dividing by 4096 and multiplying by its reciprocal are one operation. -/
theorem div_4096 (s : EReal) : Ideal.div s (Ideal.ofBits .f32 0x45800000#32) = s * Ideal.ofBits .f32 0x39800000#32 := by
  rw [ofBits_4096, ofBits_inv4096, Ideal.div_coe (by norm_num)]

/-- Dividing by 128 and multiplying by its reciprocal are one operation. -/
theorem div_128 (s : EReal) : Ideal.div s (Ideal.ofBits .f32 0x43000000#32) = s * Ideal.ofBits .f32 0x3C000000#32 := by
  rw [ofBits_128, ofBits_inv128, Ideal.div_coe (by norm_num)]

/-- The two normalised rows are equal. -/
theorem nrm_eq (x w : Fin 4096 → EReal) : nrmK x w = nrmR x w := by
  funext j; rw [nrmK, nrmR, div_4096]

/-- The first stabiliser is a positive real. -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The second stabiliser is a positive real. -/
theorem eps_head_pos : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- The reciprocal of 448 is a positive real below `2 ^ -8`. -/
theorem inv448 : ∃ e : ℝ, 0 < e ∧ e < (2 : ℝ) ^ (-8 : ℤ) ∧ Ideal.ofBits .f32 0x3B124925#32 = (e : EReal) := by
  refine ⟨(9586981 : ℝ) * (2 : ℝ) ^ (-32 : ℤ), by positivity, by norm_num, ?_⟩
  simp [Ideal.ofBits, Ideal.ieee, -EReal.coe_mul]

/-- The largest finite f32 is a real below `2 ^ 128`. -/
theorem fmax_lt : ∃ e : ℝ, 0 < e ∧ e < (2 : ℝ) ^ (128 : ℕ) ∧ Ideal.ofBits .f32 0x7F7FFFFF#32 = (e : EReal) := by
  refine ⟨(16777215 : ℝ) * (2 : ℝ) ^ (104 : ℤ), by positivity, by norm_num, ?_⟩
  simp [Ideal.ofBits, Ideal.ieee, -EReal.coe_mul]

theorem ofBits_neg_inf : Ideal.ofBits .f32 0xFF800000#32 = ⊥ := by
  simp [Ideal.ofBits, Ideal.ieee]

/-- An absolute value is nonnegative. -/
theorem absf_nonneg (x : EReal) : 0 ≤ FloatOps.absf (F := Ideal) (φ := .f32) x := by
  show 0 ≤ max x (-x)
  rcases le_total 0 x with h | h
  · exact le_max_of_le_left h
  · exact le_max_of_le_right (by rwa [EReal.le_neg, neg_zero])

theorem absf_coe (r : ℝ) : FloatOps.absf (F := Ideal) (φ := .f32) ((r : ℝ) : EReal) = ((|r| : ℝ) : EReal) := by
  show max ((r : ℝ) : EReal) (-((r : ℝ) : EReal)) = _
  rw [← EReal.coe_neg]
  exact (EReal.coe_strictMono.monotone.map_max).symm

theorem amax_le (n : Fin 4096 → EReal) (b : EReal) (h : ∀ j, FloatOps.absf (F := Ideal) (φ := .f32) (n j) ≤ b) : amax n ≤ b := by
  rw [amax, ofBits_neg_inf, Finset.fold_max_le]
  exact ⟨bot_le, fun j _ => h j⟩

theorem amax_nonneg (n : Fin 4096 → EReal) : 0 ≤ amax n := by
  rw [amax, Finset.le_fold_max]
  exact .inr ⟨0, Finset.mem_univ _, absf_nonneg _⟩

theorem peak_nonneg (n : Fin 4096 → EReal) : 0 ≤ peak n := by
  obtain ⟨e, he, _, h⟩ := inv448
  rw [peak, h]
  exact mul_nonneg (amax_nonneg n) (by exact_mod_cast he.le)

/-- A finite weight is a real. -/
theorem real_of_absf_le {w : EReal} {b : ℝ} (h : FloatOps.absf (F := Ideal) (φ := .f32) w ≤ (b : EReal)) :
    ∃ r : ℝ, w = r ∧ |r| ≤ b := by
  induction w with
  | bot =>
    have : (⊤ : EReal) ≤ b := le_trans (by show ⊤ ≤ max (⊥ : EReal) (-⊥); simp) h
    simp at this
  | top =>
    have : (⊤ : EReal) ≤ b := le_trans (by show ⊤ ≤ max (⊤ : EReal) (-⊤); simp) h
    simp at this
  | coe r => rw [absf_coe, EReal.coe_le_coe_iff] at h; exact ⟨r, rfl, h⟩

theorem mul_self_nonneg' (x : EReal) : 0 ≤ x * x := by
  induction x with
  | bot => simp
  | top => simp
  | coe r => rw [← EReal.coe_mul]; exact_mod_cast mul_self_nonneg r

/-- A sum of squares with an infinite entry is infinite. -/
theorem sum_sq_top {ι : Type*} [Fintype ι] (x : ι → EReal) (i : ι) (h : x i = ⊤ ∨ x i = ⊥) : ∑ k, x k * x k = ⊤ := by
  refine top_le_iff.mp ?_
  have h1 : x i * x i = ⊤ := by rcases h with h | h <;> rw [h] <;> simp
  rw [← h1]
  exact Finset.single_le_sum (f := fun k => x k * x k) (fun k _ => mul_self_nonneg' _) (Finset.mem_univ i)

/-- A sum of squares is a nonnegative real or infinite. -/
theorem sum_sq {ι : Type*} [Fintype ι] (x : ι → EReal) :
    (∃ i, x i = ⊤ ∨ x i = ⊥) ∨ ∃ y : ι → ℝ, (∀ i, x i = y i) ∧ ∑ k, x k * x k = ((∑ k, y k * y k : ℝ) : EReal) := by
  by_cases h : ∃ i, x i = ⊤ ∨ x i = ⊥
  · exact .inl h
  · push Not at h
    refine .inr ⟨fun i => (x i).toReal, fun i => (EReal.coe_toReal (h i).1 (h i).2).symm, ?_⟩
    have : ∀ k, x k * x k = (((x k).toReal * (x k).toReal : ℝ) : EReal) := fun k => by
      rw [EReal.coe_mul, EReal.coe_toReal (h k).1 (h k).2]
    rw [Finset.sum_congr rfl fun k _ => this k]
    exact (map_sum (⟨⟨Real.toEReal, rfl⟩, EReal.coe_add⟩ : ℝ →+ EReal) _ _).symm

/-- The reciprocal root of a mean square (divided by any positive number) plus a positive stabiliser: 0 when the sum is
    infinite, else a positive real. -/
theorem rsqrt_ms {s c e : ℝ} (hs : 0 ≤ s) (hc : 0 < c) (he : 0 < e) :
    Ideal.rsqrt ((s : EReal) * (c : EReal) + (e : EReal)) = (((Real.sqrt (s * c + e))⁻¹ : ℝ) : EReal) := by
  have hp : 0 < s * c + e := by positivity
  rw [← EReal.coe_mul, ← EReal.coe_add, Ideal.rsqrt_coe, if_neg (not_lt.mpr hp.le), if_neg hp.ne']

theorem rsqrt_top_ms {c e : ℝ} (hc : 0 < c) :
    Ideal.rsqrt ((⊤ : EReal) * (c : EReal) + (e : EReal)) = 0 := by
  rw [EReal.top_mul_coe_of_pos hc, EReal.top_add_coe, Ideal.rsqrt_top]

/-- Every normalised entry is at most 64 times the largest finite f32. -/
theorem nrm_bound (x w : Fin 4096 → EReal) (hw : ∀ j, FloatOps.absf (F := Ideal) (φ := .f32) (w j) ≤ Ideal.ofBits .f32 0x7F7FFFFF#32)
    (j : Fin 4096) : FloatOps.absf (F := Ideal) (φ := .f32) (nrmK x w j) ≤ (((2 : ℝ) ^ (134 : ℕ) : ℝ) : EReal) := by
  obtain ⟨e, he, hE⟩ := eps_pos
  obtain ⟨f, hf, hf2, hF⟩ := fmax_lt
  obtain ⟨v, hv, hvb⟩ := real_of_absf_le (hF ▸ hw j)
  rw [nrmK, ofBits_inv4096, hE, hv]
  rcases sum_sq x with ⟨i, hi⟩ | ⟨y, hy, hsum⟩
  · rw [sum_sq_top x i hi, rsqrt_top_ms (by norm_num), mul_zero, zero_mul]
    have := absf_coe 0
    rw [EReal.coe_zero] at this
    rw [this, abs_zero]
    exact_mod_cast (by positivity : (0 : ℝ) ≤ 2 ^ 134)
  · have hs : 0 ≤ ∑ k, y k * y k := Finset.sum_nonneg fun k _ => mul_self_nonneg _
    rw [hsum, rsqrt_ms hs (by norm_num) he, hy j, ← EReal.coe_mul, ← EReal.coe_mul, absf_coe, EReal.coe_le_coe_iff]
    have hj : y j * y j ≤ ∑ k, y k * y k :=
      Finset.single_le_sum (f := fun k => y k * y k) (fun k _ => mul_self_nonneg _) (Finset.mem_univ j)
    set S := ∑ k, y k * y k with hS
    have hp : 0 < S * (1 / 4096) + e := by positivity
    have hq : 0 < Real.sqrt (S * (1 / 4096) + e) := Real.sqrt_pos.mpr hp
    have h64 : |y j| ≤ 64 * Real.sqrt (S * (1 / 4096) + e) := by
      rw [show (64 : ℝ) = Real.sqrt 4096 by rw [show (4096 : ℝ) = 64 ^ 2 by norm_num, Real.sqrt_sq (by norm_num)],
        ← Real.sqrt_mul (by norm_num)]
      refine Real.abs_le_sqrt ?_
      nlinarith
    rw [abs_mul, abs_mul, abs_of_pos (inv_pos.mpr hq)]
    have h1 : |y j| * (Real.sqrt (S * (1 / 4096) + e))⁻¹ ≤ 64 := by
      rw [← div_eq_mul_inv, div_le_iff₀ hq]; exact h64
    calc |y j| * (Real.sqrt (S * (1 / 4096) + e))⁻¹ * |v| ≤ 64 * (2 : ℝ) ^ (128 : ℕ) :=
          mul_le_mul h1 (hvb.trans hf2.le) (abs_nonneg _) (by norm_num)
      _ = (2 : ℝ) ^ (134 : ℕ) := by norm_num

/-- With finite weights the peak is below `2 ^ 126`. -/
theorem peak_lt (x w : Fin 4096 → EReal) (hw : ∀ j, FloatOps.absf (F := Ideal) (φ := .f32) (w j) ≤ Ideal.ofBits .f32 0x7F7FFFFF#32) :
    peak (nrmK x w) < thr 253 := by
  obtain ⟨e, he, he2, hE⟩ := inv448
  have h := amax_le (nrmK x w) _ (nrm_bound x w hw)
  rw [peak, hE, thr_pos 253 (by omega) (by omega)]
  have h0 : (0 : EReal) ≤ (e : EReal) := by exact_mod_cast he.le
  refine lt_of_le_of_lt (mul_le_mul_of_nonneg_right h h0) ?_
  rw [← EReal.coe_mul, EReal.coe_lt_coe_iff]
  calc (2 : ℝ) ^ (134 : ℕ) * e < (2 : ℝ) ^ (134 : ℕ) * (2 : ℝ) ^ (-8 : ℤ) := by
        exact mul_lt_mul_of_pos_left he2 (by positivity)
    _ = (2 : ℝ) ^ (((253 : ℕ) : ℤ) - 127) := by norm_num

/-- With finite weights the two scales are equal. -/
theorem scaleK_eq (x w : Fin 4096 → EReal) (hw : ∀ j, FloatOps.absf (F := Ideal) (φ := .f32) (w j) ≤ Ideal.ofBits .f32 0x7F7FFFFF#32) :
    scaleK (nrmK x w) = scaleR (nrmR x w) := by
  rw [scaleK, scaleR, ← nrm_eq]
  exact scale_eq _ (peak_nonneg _) (peak_lt x w hw)

/-- With finite weights the two rows of codes are equal. -/
theorem codeK_eq (x w : Fin 4096 → EReal) (hw : ∀ j, FloatOps.absf (F := Ideal) (φ := .f32) (w j) ≤ Ideal.ofBits .f32 0x7F7FFFFF#32)
    (j : Fin 4096) : codeK (nrmK x w) j = codeR (nrmR x w) j := by
  rw [codeK, codeR, ← nrm_eq, inv_eq _ (peak_nonneg _) (peak_lt x w hw)]

end Cert.Proof

end
-- ==== Proof.Rope.lean ====
/- One head of one row: the rotation's angle, its sine and cosine by range reduction, and the normalised and rotated head,
   as the kernel computes them and as the reference does. -/
module

public import proofs.«01_k».proof.Proof.Norm

@[expose] public section

noncomputable section

namespace Cert.Proof

open Idealize.ShloMosaic

/-- The multiple of a quarter turn nearest to an angle. -/
def turns (a : EReal) : EReal := Ideal.liftRound Ideal.roundHalfEven (a * Ideal.ofBits .f32 0x3F22F983#32)

/-- What is left of the angle, in three steps. -/
def rest (a : EReal) : EReal :=
  a - turns a * Ideal.ofBits .f32 0x3FC90000#32 - turns a * Ideal.ofBits .f32 0x39FDA000#32
    - turns a * Ideal.ofBits .f32 0x33A22169#32

/-- The sine's polynomial at a remainder. -/
def sinP (r : EReal) : EReal :=
  r + r * (r * r) * (Ideal.ofBits .f32 0xBE2AAAA3#32 + r * r * (Ideal.ofBits .f32 0x3C08839E#32 + r * r * Ideal.ofBits .f32 0xB94CA1F9#32))

/-- The cosine's polynomial at a remainder. -/
def cosP (r : EReal) : EReal :=
  Ideal.ofBits .f32 0x3F800000#32 - Ideal.ofBits .f32 0x3F000000#32 * (r * r)
    + r * r * (r * r) * (Ideal.ofBits .f32 0x3D2AAAA5#32 + r * r * (Ideal.ofBits .f32 0xBAB6061A#32 + r * r * Ideal.ofBits .f32 0x37CCF5CE#32))

/-- The quarter turns as a word. -/
def quad (a : EReal) : BitVec 32 := Ideal.fptosi 32 (turns a)

/-- The kernel's choice between sine and cosine, and of the sign, by the low two bits of a count of quarter turns. -/
def trigK (q : BitVec 32) (s c : EReal) : EReal :=
  Scalar.select (IntOp.cmpi .eq (IntOp.andi q 2#32) 0#32)
    (Scalar.select (IntOp.cmpi .eq (IntOp.andi q 1#32) 0#32) s c)
    (Ideal.ofBits .f32 0x00000000#32 - Scalar.select (IntOp.cmpi .eq (IntOp.andi q 1#32) 0#32) s c)

/-- The reference's cosine, by cases on the quarter turns. -/
def cosR (q : BitVec 32) (s c : EReal) : EReal :=
  Scalar.select (IntOp.cmpi .eq (IntOp.andi q 3#32) 0#32) c
    (Scalar.select (IntOp.cmpi .eq (IntOp.andi q 3#32) 1#32) (Ideal.ofBits .f32 0x00000000#32 - s)
      (Scalar.select (IntOp.cmpi .eq (IntOp.andi q 3#32) 2#32) (Ideal.ofBits .f32 0x00000000#32 - c) s))

/-- The reference's sine, likewise. -/
def sinR (q : BitVec 32) (s c : EReal) : EReal :=
  Scalar.select (IntOp.cmpi .eq (IntOp.andi q 3#32) 0#32) s
    (Scalar.select (IntOp.cmpi .eq (IntOp.andi q 3#32) 1#32) c
      (Scalar.select (IntOp.cmpi .eq (IntOp.andi q 3#32) 2#32) (Ideal.ofBits .f32 0x00000000#32 - s)
        (Ideal.ofBits .f32 0x00000000#32 - c)))

theorem select_eq {α : Type} (a b : BitVec 32) (x y : α) :
    Scalar.select (IntOp.cmpi .eq a b) x y = if a = b then x else y := by
  by_cases h : a = b
  · subst h; simp [Scalar.select, IntOp.cmpi]
  · have hb : (a == b) = false := by simpa using h
    simp [Scalar.select, IntOp.cmpi, hb, h]

theorem and1 (q : BitVec 32) : q &&& 1#32 = (q &&& 3#32) &&& 1#32 := by
  rw [BitVec.and_assoc]; rfl

theorem and2 (q : BitVec 32) : q &&& 2#32 = (q &&& 3#32) &&& 2#32 := by
  rw [BitVec.and_assoc]; rfl

theorem and3_cases (q : BitVec 32) :
    q &&& 3#32 = 0#32 ∧ (q + 1#32) &&& 3#32 = 1#32 ∨ q &&& 3#32 = 1#32 ∧ (q + 1#32) &&& 3#32 = 2#32
      ∨ q &&& 3#32 = 2#32 ∧ (q + 1#32) &&& 3#32 = 3#32 ∨ q &&& 3#32 = 3#32 ∧ (q + 1#32) &&& 3#32 = 0#32 := by
  have e : ∀ n : ℕ, n &&& 3 = n % 4 := fun n => Nat.and_two_pow_sub_one_eq_mod n 2
  simp only [← BitVec.toNat_inj, BitVec.toNat_and, BitVec.toNat_add, BitVec.toNat_ofNat, Nat.reducePow, Nat.reduceMod, e]
  omega

/-- One quarter turn on, the kernel's value is the reference's cosine. -/
theorem trigK_succ (q : BitVec 32) (s c : EReal) : trigK (IntOp.addi q 1#32) s c = cosR q s c := by
  simp only [trigK, cosR, select_eq, IntOp.andi, IntOp.addi]
  rw [and1 (q + 1#32), and2 (q + 1#32)]
  rcases and3_cases q with ⟨h, h'⟩ | ⟨h, h'⟩ | ⟨h, h'⟩ | ⟨h, h'⟩ <;> rw [h, h'] <;> simp

/-- At the quarter turn itself, the reference's sine. -/
theorem trigK_self (q : BitVec 32) (s c : EReal) : trigK q s c = sinR q s c := by
  simp only [trigK, sinR, select_eq, IntOp.andi]
  rw [and1 q, and2 q]
  rcases and3_cases q with ⟨h, h'⟩ | ⟨h, h'⟩ | ⟨h, h'⟩ | ⟨h, h'⟩ <;> rw [h] <;> simp

/-- The angle of a position at one frequency. -/
def ang (p : BitVec 32) (f : EReal) : EReal := FloatOps.sitofp (F := Ideal) .f32 p * f

/-- The reference's cosine of an angle. -/
def cosA (a : EReal) : EReal := cosR (quad a) (sinP (rest a)) (cosP (rest a))

/-- The reference's sine of an angle. -/
def sinA (a : EReal) : EReal := sinR (quad a) (sinP (rest a)) (cosP (rest a))

/-- One entry of the reference's projection: the codes against a column of the weights, scaled. -/
def projR (x w col : Fin 4096 → EReal) (s : EReal) : EReal :=
  (∑ k, codeR (nrmR x w) k * col k) * scaleR (nrmR x w) * s

/-- One entry of the kernel's projection. -/
def projK (x w col : Fin 4096 → EReal) (s : EReal) : EReal :=
  (∑ k, codeK (nrmK x w) k * col k) * scaleK (nrmK x w) * s

/-- With finite weights the two projections are equal. -/
theorem projK_eq (x w col : Fin 4096 → EReal) (s : EReal)
    (hw : ∀ j, FloatOps.absf (F := Ideal) (φ := .f32) (w j) ≤ Ideal.ofBits .f32 0x7F7FFFFF#32) :
    projK x w col s = projR x w col s := by
  rw [projK, projR, scaleK_eq x w hw]
  simp only [codeK_eq x w hw]

/-- The lane half a head away. -/
def rot (l : Fin 128) : Fin 128 := ⟨(l.val + 128 - 64) % 128, Nat.mod_lt _ (by norm_num)⟩

/-- The kernel's reciprocal root mean square of a head. -/
def rmsK (u : Fin 128 → EReal) : EReal :=
  Ideal.rsqrt ((∑ k, u k * u k) * Ideal.ofBits .f32 0x3C000000#32 + Ideal.ofBits .f32 0x358637BD#32)

/-- The kernel's head: the rotation's tables times the weights, then the sum, then the normalisation. -/
def headK (u g C S : Fin 128 → EReal) (l : Fin 128) : EReal :=
  (u l * (C l * g l) + u (rot l) * (S l * g (rot l))) * rmsK u

/-- The reference's normalised and weighted head. -/
def headN (u g : Fin 128 → EReal) (l : Fin 128) : EReal :=
  u l * Ideal.rsqrt (Ideal.div (∑ k, u k * u k) (Ideal.ofBits .f32 0x43000000#32) + Ideal.ofBits .f32 0x358637BD#32) * g l

/-- The reference's head: normalised, then the two halves rotated. -/
def headR (u g : Fin 128 → EReal) (a : Fin 64 → EReal) (l : Fin 128) : EReal :=
  if h : l.val < 64 then
    headN u g l * cosA (a ⟨l.val, h⟩) - headN u g ⟨64 + l.val, by omega⟩ * sinA (a ⟨l.val, h⟩)
  else
    headN u g ⟨64 + (l.val - 64), by omega⟩ * cosA (a ⟨l.val - 64, by omega⟩)
      + headN u g ⟨l.val - 64, by omega⟩ * sinA (a ⟨l.val - 64, by omega⟩)

/-- The normalisation's factor is a nonnegative real. -/
theorem rmsK_real (u : Fin 128 → EReal) : ∃ r : ℝ, 0 ≤ r ∧ rmsK u = (r : EReal) := by
  obtain ⟨e, he, hE⟩ := eps_head_pos
  rw [rmsK, ofBits_inv128, hE]
  rcases sum_sq u with ⟨i, hi⟩ | ⟨y, hy, hsum⟩
  · rw [sum_sq_top u i hi, rsqrt_top_ms (by norm_num)]
    exact ⟨0, le_rfl, EReal.coe_zero.symm⟩
  · rw [hsum, rsqrt_ms (Finset.sum_nonneg fun k _ => mul_self_nonneg _) (by norm_num) he]
    exact ⟨_, by positivity, rfl⟩

theorem add_mul_real (x y : EReal) {r : ℝ} (h : 0 ≤ r) : (x + y) * (r : EReal) = x * r + y * r := by
  rw [mul_comm, EReal.left_distrib_of_nonneg_of_ne_top (by exact_mod_cast h) (EReal.coe_ne_top r), mul_comm x, mul_comm y]

/-- The kernel's head is the reference's when its tables hold the cosine of the lane's frequency and the sine with the
    sign of the lane's half. -/
theorem headK_eq (u g C S : Fin 128 → EReal) (a : Fin 64 → EReal)
    (hC : ∀ l : Fin 128, C l = cosA (a ⟨l.val % 64, Nat.mod_lt _ (by norm_num)⟩))
    (hS : ∀ l : Fin 128, S l = if l.val < 64 then 0 - sinA (a ⟨l.val % 64, Nat.mod_lt _ (by norm_num)⟩)
      else sinA (a ⟨l.val % 64, Nat.mod_lt _ (by norm_num)⟩)) (l : Fin 128) :
    headK u g C S l = headR u g a l := by
  obtain ⟨r, hr, hR⟩ := rmsK_real u
  have hN : ∀ l, headN u g l = u l * r * g l := fun l => by
    rw [headN, div_128, ← hR, rmsK]
  rw [headK, headR, hR, add_mul_real _ _ hr, hC, hS]
  by_cases h : l.val < 64
  · have e1 : rot l = ⟨64 + l.val, by omega⟩ := Fin.ext (by simp only [rot]; omega)
    have e2 : (⟨l.val % 64, Nat.mod_lt _ (by norm_num)⟩ : Fin 64) = ⟨l.val, h⟩ := Fin.ext (by simp only; omega)
    rw [dif_pos h, if_pos h, e1, e2, hN, hN, zero_sub, sub_eq_add_neg]
    congr 1
    · ac_rfl
    · rw [EReal.neg_mul, mul_comm (u _) (-_), EReal.neg_mul, EReal.neg_mul]
      congr 1
      ac_rfl
  · have e1 : rot l = ⟨l.val - 64, by omega⟩ := Fin.ext (by simp only [rot]; omega)
    have e2 : (⟨l.val % 64, Nat.mod_lt _ (by norm_num)⟩ : Fin 64) = ⟨l.val - 64, by omega⟩ := Fin.ext (by simp only; omega)
    have e3 : (⟨64 + (l.val - 64), by omega⟩ : Fin 128) = l := Fin.ext (by simp only; omega)
    rw [dif_neg h, if_neg h, e1, e2, e3, hN, hN]
    congr 1 <;> ac_rfl

/-- A lane's frequency. -/
def freq (l : Fin 128) : Fin 64 := ⟨l.val % 64, Nat.mod_lt _ (by norm_num)⟩

/-- The same, with the lane's frequency named. -/
theorem headK_eq_freq (u g C S : Fin 128 → EReal) (a : Fin 64 → EReal) (hC : ∀ l : Fin 128, C l = cosA (a (freq l)))
    (hS : ∀ l : Fin 128, S l = if l.val < 64 then 0 - sinA (a (freq l)) else sinA (a (freq l))) (l : Fin 128) :
    headK u g C S l = headR u g a l := headK_eq u g C S a hC hS l

end Cert.Proof

end
-- ==== Proof.KRow.lean ====
/- What the kernel's row-wise payloads hold at an index of a block of 128 rows, in terms of the rows of the block. -/
module

public import proofs.«01_k».proof.Proof.Gen.KernelIdeal.Skeleton
public import proofs.«01_k».proof.Proof.Rope
public import Idealize.ShloMosaic.Lib.Pointwise

@[expose] public section

set_option maxRecDepth 16384

noncomputable section

namespace Cert.Proof.Ker

open Idealize.ShloMosaic Cert.KernelIdeal Cert.KernelIdeal.Gen

variable (x : Vec Ideal S128x4096 .bf16) (w : Vec Ideal S1x4096 .f32)

/-- The rows normalised, from the rows in the wide format. -/
def normV (e : FVec Ideal S128x4096 .f32) (w : Vec Ideal S1x4096 .f32) : FVec Ideal S128x4096 .f32 :=
  mulf (mulf e (broadcastTo S128x4096 (rsqrt (addf (mulf (shapeCast S128x1
      (multiReduction .add [1] S128 (mulf e e) 0x00000000#32 reduces_S128x4096_S128 (.inl rfl) rfl)
      shapeCasts_S128_S128x1) (broadcast S128x1 (Scalar.ofBits .f32 0x39800000#32)))
      (broadcast S128x1 (Scalar.ofBits .f32 0x3727C5AC#32)))) broadcasts_S128x1_S128x4096))
    (broadcastTo S128x4096 (shapeCast S1x4096 w shapeCasts_S1x4096_S1x4096) broadcasts_S1x4096_S128x4096)

theorem normV_apply (e : FVec Ideal S128x4096 .f32) (w : Vec Ideal S1x4096 .f32) (r : Fin 128) (j : Fin 4096) :
    normV e w (ix2 r j) = nrmK (fun k => e (ix2 r k)) (fun k => w (ix2 0 k)) j := by pointwise [normV, nrmK]

/-- The rows in the wide format. -/
def wide : FVec Ideal S128x4096 .f32 :=
  extf .f32 (shapeCast S128x4096 x shapeCasts_S128x4096_S128x4096) bitsLt_bf16_f32

theorem wide_apply (r : Fin 128) (k : Fin 4096) : wide x (ix2 r k) = x (ix2 r k) := by
  rw [wide, shapeCast_id]; rfl

theorem pay4_eq : k0_pay4 x w = normV (wide x) w := rfl

/-- The normalised entry. -/
theorem nrm_apply (r : Fin 128) (j : Fin 4096) :
    k0_pay4 x w (ix2 r j) = nrmK (fun k => x (ix2 r k)) (fun k => w (ix2 0 k)) j := by
  rw [pay4_eq, normV_apply]
  simp only [wide_apply]

/-- The largest absolute entry of each row. -/
def amaxV (n : FVec Ideal S128x4096 .f32) : FVec Ideal S128x1 .f32 :=
  shapeCast S128x1 (multiReduction .maximumf [1] S128 (absf n) 0xFF800000#32 reduces_S128x4096_S128 (.inl rfl) rfl)
    shapeCasts_S128_S128x1

theorem amaxV_apply (n : FVec Ideal S128x4096 .f32) (r : Fin 128) :
    amaxV n (ix2 r 0) = amax (fun j => n (ix2 r j)) := by pointwise [amaxV, amax]

/-- The peak of each row, in every lane. -/
def peakV (v : FVec Ideal S128x1 .f32) : FVec Ideal S128x128 .f32 :=
  mulf (broadcastTo S128x128 (shapeCast S128x1 v shapeCasts_S128x1_S128x1) broadcasts_S128x1_S128x128)
    (broadcast S128x128 (Scalar.ofBits .f32 0x3B124925#32))

theorem peakV_apply (v : FVec Ideal S128x1 .f32) (r l : Fin 128) :
    peakV v (ix2 r l) = v (ix2 r 0) * Ideal.ofBits .f32 0x3B124925#32 := by pointwise [peakV]

theorem pay5_eq : k0_pay5 x w = peakV (amaxV (k0_pay4 x w)) := rfl

theorem peak_apply (r l : Fin 128) :
    k0_pay5 x w (ix2 r l) = peak (nrmK (fun k => x (ix2 r k)) (fun k => w (ix2 0 k))) := by
  rw [pay5_eq, peakV_apply, amaxV_apply, peak]
  simp only [nrm_apply]

/-- One step of the search for the exponent's word, in every lane. -/
def stepV (a : FVec Ideal S128x128 .f32) (u : IVec S128x128 32) (b : BitVec 32) : IVec S128x128 32 :=
  select (cmpf .olt a (bitcastToFloat .f32 (shli (addi u (broadcast S128x128 b)) (broadcast S128x128 23#32)))) u
    (addi u (broadcast S128x128 b))

theorem stepV_apply (a : FVec Ideal S128x128 .f32) (u : IVec S128x128 32) (b : BitVec 32) (r l : Fin 128) :
    stepV a u b (ix2 r l) = fieldStep (a (ix2 r l)) (u (ix2 r l)) b := by pointwise [stepV, fieldStep]

theorem pay6_eq : k0_pay6 x w
    = stepV (k0_pay5 x w) (stepV (k0_pay5 x w) (broadcast S128x128 0#32) 128#32) 64#32 := rfl

theorem pay7_eq : k0_pay7 x w = addi (k0_pay6 x w) (broadcast S128x128 32#32) := rfl

/-- The word less its bias, zero at zero. -/
def wordV (u : IVec S128x128 32) : IVec S128x128 32 :=
  select (cmpi .eq u (broadcast S128x128 0#32)) (broadcast S128x128 0#32) (subi u (broadcast S128x128 126#32))

theorem wordV_apply (u : IVec S128x128 32) (r l : Fin 128) : wordV u (ix2 r l) = expWord (u (ix2 r l)) := by
  rw [expWord, ← select_eq]; pointwise [wordV]

theorem pay8_eq (a : FVec Ideal S128x128 .f32) (u : IVec S128x128 32) :
    k0_pay8 a u (addi u (broadcast S128x128 32#32))
      = wordV (stepV a (stepV a (stepV a (stepV a (stepV a (stepV a u 32#32) 16#32) 8#32) 4#32) 2#32) 1#32) := rfl

/-- The exponents of a block's rows, in every lane. -/
def kexp : IVec S128x128 32 := k0_pay8 (k0_pay5 x w) (k0_pay6 x w) (k0_pay7 x w)

theorem kexp_apply (r l : Fin 128) :
    kexp x w (ix2 r l) = expWord (fieldOf (peak (nrmK (fun k => x (ix2 r k)) (fun k => w (ix2 0 k))))) := by
  rw [kexp, pay7_eq, pay8_eq, wordV_apply]
  simp only [stepV_apply, pay6_eq, peak_apply, fieldOf]
  rfl

theorem scaleV_apply (b : IVec S128x128 32) (r l : Fin 128) :
    k0_pay9 (F := Ideal) b (ix2 r l) = Ideal.ofBits .f32 (IntOp.shli .vector (IntOp.addi (b (ix2 r l)) 127#32) 23#32) := by
  pointwise [k0_pay9]

/-- The rows' scales, in every lane. -/
theorem scale_apply (r l : Fin 128) :
    k0_pay9 (F := Ideal) (kexp x w) (ix2 r l) = scaleK (nrmK (fun k => x (ix2 r k)) (fun k => w (ix2 0 k))) := by
  rw [scaleV_apply, kexp_apply, scaleK]

theorem codeV_apply (a : FVec Ideal S128x4096 .f32) (b : IVec S128x128 32) (r : Fin 128) (j : Fin 4096) :
    k0_pay10 a b (ix2 r j)
      = clip (a (ix2 r j)) (Ideal.ofBits .f32 (IntOp.shli .vector (IntOp.addi (IntOp.subi 0#32 (b (ix2 r 0))) 127#32) 23#32)) := by
  pointwise [k0_pay10, clip]

/-- The codes of a block's rows. -/
def codes : FVec Ideal S128x4096 .fp8e4m3 := k0_pay10 (k0_pay4 x w) (kexp x w)

theorem codes_apply (r : Fin 128) (j : Fin 4096) :
    codes x w (ix2 r j) = codeK (nrmK (fun k => x (ix2 r k)) (fun k => w (ix2 0 k))) j := by
  rw [codes, codeV_apply, kexp_apply, nrm_apply, codeK]

/-- A sum over one lane's diagonal entry picks that entry. -/
theorem diag (r : Fin 128) (v : Fin 128 → EReal) :
    (∑ k : Fin 128, Scalar.select (IntOp.cmpi .eq (BitVec.ofNat 32 r.val) (BitVec.ofNat 32 k.val)) (v k) 0) = v r := by
  have h : ∀ k : Fin 128, (BitVec.ofNat 32 r.val = BitVec.ofNat 32 k.val) ↔ r = k := by
    intro k
    rw [← BitVec.toNat_inj, BitVec.toNat_ofNat, BitVec.toNat_ofNat, Nat.mod_eq_of_lt (by omega), Nat.mod_eq_of_lt (by omega),
      Fin.ext_iff]
  simp [select_eq, h]

theorem diag' (r : Fin 128) (v : Fin 128 → EReal) :
    (∑ k : Fin 128, Scalar.select (IntOp.cmpi .eq (BitVec.ofNat 32 k.val) (BitVec.ofNat 32 r.val)) (v k) 0) = v r := by
  rw [← diag r v]
  refine Finset.sum_congr rfl fun k _ => ?_
  rw [select_eq, select_eq]
  exact if_congr eq_comm rfl rfl

/-- The scales turned from rows to lanes. -/
theorem scaleOutV_apply (b : IVec S128x128 32) (l : Fin 128) :
    k0_pay11 (F := Ideal) k0_pay3 b (ix3 0 0 l) = k0_pay9 (F := Ideal) b (ix2 l l) := by
  rw [← diag' l fun k => k0_pay9 (F := Ideal) b (ix2 k l)]
  pointwise [k0_pay11, k0_pay3]

theorem scaleOut_apply (l : Fin 128) :
    k0_pay11 (F := Ideal) k0_pay3 (kexp x w) (ix3 0 0 l) = scaleK (nrmK (fun k => x (ix2 l k)) (fun k => w (ix2 0 k))) := by
  rw [scaleOutV_apply, scale_apply]

/-- The positions turned from lanes to rows. -/
theorem pos_apply (p : Vec Ideal S1x1x128 .i32) (r : Fin 128) :
    k0_pay12 (F := Ideal) k0_pay3 p (ix2 r 0) = FloatOps.sitofp (F := Ideal) .f32 (p (ix3 0 0 r)) := by
  rw [← diag r fun k => FloatOps.sitofp (F := Ideal) .f32 (p (ix3 0 0 k))]
  pointwise [k0_pay12, k0_pay3]

end Cert.Proof.Ker

end
-- ==== Proof.KPieces.lean ====
/- Each store of a pair of heads is the pair of two heads of one tile of the projection. -/
module

public import proofs.«01_k».proof.Proof.Gen.KernelIdeal.Skeleton
public import Idealize.ShloMosaic.Lib.Pointwise

@[expose] public section

set_option maxRecDepth 16384

noncomputable section

namespace Cert.Proof.Ker

open Idealize.ShloMosaic Cert.KernelIdeal Cert.KernelIdeal.Gen

/-- A head before the normalisation: 128 columns of a tile from `o`, scaled by the rows' and the columns' scales. -/
def uV (o : ℕ) (h : S128x512.Slices ![0, o] S128x128) (y : FVec Ideal S128x512 .f32) (sc : FVec Ideal S128x128 .f32)
    (s : Vec Ideal S1x128 .f32) : FVec Ideal S128x128 .f32 :=
  mulf (mulf (extractStridedSlice S128x128 ![0, o] y h) sc)
    (broadcastTo S128x128 (shapeCast S1x128 s shapeCasts_S1x128_S1x128) broadcasts_S1x128_S128x128)

/-- Two heads normalised and rotated, row by row side by side. -/
def pairV (C S : FVec Ideal S128x128 .f32) (a b : FVec Ideal S128x128 .f32) (g : Vec Ideal S1x128 .f32) :
    Vec Ideal S128x2x128 .bf16 :=
  k0_pay41 (k0_pay35 C S a g) (k0_pay35 C S b g)

variable (C S sc : FVec Ideal S128x128 .f32) (cd : Vec Ideal S128x4096 .fp8e4m3) (W : Vec Ideal S4096x512 .fp8e4m3)
  (s s' : Vec Ideal S1x128 .f32) (g : Vec Ideal S1x128 .f32)

/-- The tile of the projection. -/
def tileV : FVec Ideal S128x512 .f32 := k0_pay43 (k0_pay27 cd) W

theorem q30_eq :
    k0_pay140 (k0_pay135 C S (k0_pay133 sc (k0_pay125 (k0_pay27 cd) W) s) (k0_pay134 g)) (k0_pay137 sc (k0_pay125 (k0_pay27 cd) W) s') (k0_pay138 sc C S (k0_pay125 (k0_pay27 cd) W) s' g)
      = pairV C S (uV 256 slices_S128x512_o0_256_S128x128 (tileV cd W) sc s) (uV 384 slices_S128x512_o0_384_S128x128 (tileV cd W) sc s') g := rfl

theorem q28_eq :
    k0_pay139 (k0_pay131 S (k0_pay126 sc (k0_pay27 cd) W s) (k0_pay128 sc (k0_pay27 cd) W s) (k0_pay129 C g) (k0_pay130 g)) (k0_pay132 sc C S (k0_pay125 (k0_pay27 cd) W) s' g)
      = pairV C S (uV 0 slices_S128x512_o0_0_S128x128 (tileV cd W) sc s) (uV 128 slices_S128x512_o0_128_S128x128 (tileV cd W) sc s') g := rfl

theorem q26_eq :
    k0_pay124 S (k0_pay117 C S (k0_pay116 sc (k0_pay110 (k0_pay27 cd) W)) s g) (k0_pay118 sc (k0_pay110 (k0_pay27 cd) W) s') (k0_pay120 sc (k0_pay110 (k0_pay27 cd) W) s') (k0_pay121 C g) (k0_pay122 g)
      = pairV C S (uV 256 slices_S128x512_o0_256_S128x128 (tileV cd W) sc s) (uV 384 slices_S128x512_o0_384_S128x128 (tileV cd W) sc s') g := rfl

theorem q24_eq :
    k0_pay123 (k0_pay114 C S (k0_pay111 sc (k0_pay27 cd) W s) (k0_pay112 g) (k0_pay113 sc (k0_pay27 cd) W s) (FloatOps.ofBits FTy.f32 1006632960#32)) (k0_pay115 sc C S (k0_pay110 (k0_pay27 cd) W) s' g)
      = pairV C S (uV 0 slices_S128x512_o0_0_S128x128 (tileV cd W) sc s) (uV 128 slices_S128x512_o0_128_S128x128 (tileV cd W) sc s') g := rfl

theorem q22_eq :
    k0_pay109 C S (k0_pay104 sc C S (k0_pay95 (k0_pay27 cd) W) s g) (k0_pay105 sc (k0_pay95 (k0_pay27 cd) W) s') (k0_pay106 g) (k0_pay107 sc (k0_pay95 (k0_pay27 cd) W) s') (FloatOps.ofBits FTy.f32 1006632960#32)
      = pairV C S (uV 256 slices_S128x512_o0_256_S128x128 (tileV cd W) sc s) (uV 384 slices_S128x512_o0_384_S128x128 (tileV cd W) sc s') g := rfl

theorem q20_eq :
    k0_pay108 (k0_pay97 C S (k0_pay96 sc (k0_pay27 cd) W s) g) (k0_pay103 (k0_pay98 sc (k0_pay95 (k0_pay27 cd) W) s') (k0_pay100 sc (k0_pay95 (k0_pay27 cd) W) s') (k0_pay101 S g) (k0_pay102 sc C (k0_pay95 (k0_pay27 cd) W) s' g))
      = pairV C S (uV 0 slices_S128x512_o0_0_S128x128 (tileV cd W) sc s) (uV 128 slices_S128x512_o0_128_S128x128 (tileV cd W) sc s') g := rfl

theorem q18_eq :
    k0_pay94 C S (k0_pay91 sc C S (k0_pay85 (k0_pay27 cd) W (constant S128x512 FTy.f32 0#32)) s g) (k0_pay92 sc (k0_pay85 (k0_pay27 cd) W (constant S128x512 FTy.f32 0#32)) s') g
      = pairV C S (uV 256 slices_S128x512_o0_256_S128x128 (tileV cd W) sc s) (uV 384 slices_S128x512_o0_384_S128x128 (tileV cd W) sc s') g := rfl

theorem q16_eq :
    k0_pay93 (k0_pay86 sc C S (k0_pay27 cd) W (constant S128x512 FTy.f32 0#32) s g) (k0_pay90 C S (k0_pay87 sc (k0_pay27 cd) W (constant S128x512 FTy.f32 0#32) s') (k0_pay88 g) (k0_pay89 sc (k0_pay27 cd) W (constant S128x512 FTy.f32 0#32) s'))
      = pairV C S (uV 0 slices_S128x512_o0_0_S128x128 (tileV cd W) sc s) (uV 128 slices_S128x512_o0_128_S128x128 (tileV cd W) sc s') g := rfl

theorem q14_eq :
    k0_pay84 sc C S (k0_pay74 (k0_pay27 cd) W) (k0_pay81 sc C S (k0_pay74 (k0_pay27 cd) W) s g) (k0_pay82 sc (k0_pay74 (k0_pay27 cd) W) s) s' g
      = pairV C S (uV 256 slices_S128x512_o0_256_S128x128 (tileV cd W) sc s) (uV 384 slices_S128x512_o0_384_S128x128 (tileV cd W) sc s') g := rfl

theorem q12_eq :
    k0_pay83 (k0_pay75 sc C S (k0_pay27 cd) W s g) (k0_pay79 C S (k0_pay76 sc (k0_pay27 cd) W s') (k0_pay77 g) (k0_pay78 sc (k0_pay27 cd) W s'))
      = pairV C S (uV 0 slices_S128x512_o0_0_S128x128 (tileV cd W) sc s) (uV 128 slices_S128x512_o0_128_S128x128 (tileV cd W) sc s') g := rfl

theorem q10_eq :
    k0_pay73 (k0_pay71 S (k0_pay65 sc (k0_pay61 (k0_pay27 cd) W) s) (k0_pay67 sc (k0_pay61 (k0_pay27 cd) W) s) (k0_pay68 C g) (k0_pay69 g)) (k0_pay72 sc C S (k0_pay61 (k0_pay27 cd) W) s' g)
      = pairV C S (uV 256 slices_S128x512_o0_256_S128x128 (tileV cd W) sc s) (uV 384 slices_S128x512_o0_384_S128x128 (tileV cd W) sc s') g := rfl

theorem q8_eq :
    k0_pay70 (k0_pay62 sc C S (k0_pay27 cd) W s g) (k0_pay64 C S (k0_pay63 sc (k0_pay27 cd) W) s' g)
      = pairV C S (uV 0 slices_S128x512_o0_0_S128x128 (tileV cd W) sc s) (uV 128 slices_S128x512_o0_128_S128x128 (tileV cd W) sc s') g := rfl

theorem q6_eq :
    k0_pay60 (k0_pay55 C S (k0_pay51 sc (k0_pay43 (k0_pay27 cd) W) s) (k0_pay52 g) (k0_pay53 sc (k0_pay43 (k0_pay27 cd) W) s) k0_pay54) (k0_pay56 sc C S (k0_pay43 (k0_pay27 cd) W) s' g)
      = pairV C S (uV 256 slices_S128x512_o0_256_S128x128 (tileV cd W) sc s) (uV 384 slices_S128x512_o0_384_S128x128 (tileV cd W) sc s') g := rfl

theorem q4_eq :
    k0_pay59 (k0_pay57 (k0_pay49 (k0_pay44 sc (k0_pay27 cd) W s) (k0_pay46 sc (k0_pay27 cd) W s) (k0_pay47 S g) (k0_pay48 sc C (k0_pay27 cd) W s g) 64#32)) (k0_pay58 (k0_pay50 sc C S (k0_pay43 (k0_pay27 cd) W) s' g))
      = pairV C S (uV 0 slices_S128x512_o0_0_S128x128 (tileV cd W) sc s) (uV 128 slices_S128x512_o0_128_S128x128 (tileV cd W) sc s') g := rfl

theorem q2_eq :
    k0_pay42 (k0_pay35 C S (k0_pay34 sc (k0_pay28 cd W) s) g) (k0_pay36 sc (k0_pay28 cd W) s') (k0_pay38 sc (k0_pay28 cd W) s') (k0_pay39 S g) (k0_pay40 sc C (k0_pay28 cd W) s' g) 64#32
      = pairV C S (uV 256 slices_S128x512_o0_256_S128x128 (tileV cd W) sc s) (uV 384 slices_S128x512_o0_384_S128x128 (tileV cd W) sc s') g := rfl

theorem q0_eq :
    k0_pay41 (k0_pay32 C S (k0_pay29 sc cd W s) (k0_pay30 g) (k0_pay31 sc cd W s)) (k0_pay33 sc C S (k0_pay28 cd W) s' g)
      = pairV C S (uV 0 slices_S128x512_o0_0_S128x128 (tileV cd W) sc s) (uV 128 slices_S128x512_o0_128_S128x128 (tileV cd W) sc s') g := rfl

theorem k6_eq :
    k0_pay170 (k0_pay168 (k0_pay162 sc (k0_pay157 (k0_pay27 cd) W) s) (k0_pay164 sc (k0_pay157 (k0_pay27 cd) W) s) (k0_pay165 C g) (k0_pay166 S g)) (k0_pay169 sc C S (k0_pay157 (k0_pay27 cd) W) s' g)
      = pairV C S (uV 256 slices_S128x512_o0_256_S128x128 (tileV cd W) sc s) (uV 384 slices_S128x512_o0_384_S128x128 (tileV cd W) sc s') g := rfl

theorem k4_eq :
    k0_pay167 (k0_pay158 sc C S (k0_pay27 cd) W s g) (k0_pay161 C S (k0_pay159 sc (k0_pay27 cd) W) (k0_pay160 s') g)
      = pairV C S (uV 0 slices_S128x512_o0_0_S128x128 (tileV cd W) sc s) (uV 128 slices_S128x512_o0_128_S128x128 (tileV cd W) sc s') g := rfl

theorem k2_eq :
    k0_pay156 (k0_pay151 C S (k0_pay147 sc (k0_pay141 (k0_pay27 cd) W) s) (k0_pay148 g) (k0_pay149 sc (k0_pay141 (k0_pay27 cd) W) s) k0_pay150) (k0_pay152 sc C S (k0_pay141 (k0_pay27 cd) W) s' g)
      = pairV C S (uV 256 slices_S128x512_o0_256_S128x128 (tileV cd W) sc s) (uV 384 slices_S128x512_o0_384_S128x128 (tileV cd W) sc s') g := rfl

theorem k0_eq :
    k0_pay155 (k0_pay153 (k0_pay145 (k0_pay143 sc (k0_pay27 cd) W s) (k0_pay144 sc C S (k0_pay27 cd) W s g))) (k0_pay154 (k0_pay146 sc C S (k0_pay141 (k0_pay27 cd) W) s' g))
      = pairV C S (uV 0 slices_S128x512_o0_0_S128x128 (tileV cd W) sc s) (uV 128 slices_S128x512_o0_128_S128x128 (tileV cd W) sc s') g := rfl

theorem v6_eq :
    k0_pay2 sc (k0_pay174 (k0_pay27 cd) W) (k0_pay177 sc (k0_pay27 cd) W s) s'
      = k0_pay41 (uV 256 slices_S128x512_o0_256_S128x128 (tileV cd W) sc s) (uV 384 slices_S128x512_o0_384_S128x128 (tileV cd W) sc s') := rfl

theorem v4_eq :
    k0_pay1 (k0_pay175 sc (k0_pay27 cd) W s) (k0_pay176 sc (k0_pay27 cd) W s')
      = k0_pay41 (uV 0 slices_S128x512_o0_0_S128x128 (tileV cd W) sc s) (uV 128 slices_S128x512_o0_128_S128x128 (tileV cd W) sc s') := rfl

theorem v2_eq :
    k0_pay173 sc (k0_pay27 cd) W s s'
      = k0_pay41 (uV 256 slices_S128x512_o0_256_S128x128 (tileV cd W) sc s) (uV 384 slices_S128x512_o0_384_S128x128 (tileV cd W) sc s') := rfl

theorem v0_eq :
    k0_pay172 sc (k0_pay27 cd) W s s'
      = k0_pay41 (uV 0 slices_S128x512_o0_0_S128x128 (tileV cd W) sc s) (uV 128 slices_S128x512_o0_128_S128x128 (tileV cd W) sc s') := rfl

end Cert.Proof.Ker

end
-- ==== Proof.KTable.lean ====
/- The kernel's tables of cosines and signed sines, and its heads, at an index of a block. -/
module

public import proofs.«01_k».proof.Proof.KPieces
public import proofs.«01_k».proof.Proof.Rope
public import Idealize.ShloMosaic.Lib.Pointwise
public import Idealize.ShloMosaic.Lib.Pipeline.ValueKit

@[expose] public section

set_option maxRecDepth 16384

noncomputable section

namespace Cert.Proof.Ker

open Idealize.ShloMosaic Cert.KernelIdeal Cert.KernelIdeal.Gen

section Table

variable (p : FVec Ideal S128x1 .f32) (f : Vec Ideal S1x128 .f32) (r l : Fin 128)

theorem ang_apply : k0_pay13 p f (ix2 r l) = p (ix2 r 0) * f (ix2 0 l) := by pointwise [k0_pay13]

theorem turns_apply : k0_pay15 p f (ix2 r l) = turns (p (ix2 r 0) * f (ix2 0 l)) := by
  rw [← ang_apply p f r l]; pointwise [k0_pay15, turns]

theorem rest_apply : k0_pay16 p f (ix2 r l) = rest (p (ix2 r 0) * f (ix2 0 l)) := by
  rw [rest, ← turns_apply p f r l, ← ang_apply p f r l]; pointwise [k0_pay16]

theorem sq_apply : k0_pay18 p f (ix2 r l) = k0_pay16 p f (ix2 r l) * k0_pay16 p f (ix2 r l) := by pointwise [k0_pay18]

theorem sin_apply : k0_pay19 p f (ix2 r l) = sinP (rest (p (ix2 r 0) * f (ix2 0 l))) := by
  rw [sinP, ← rest_apply p f r l, ← sq_apply p f r l]; pointwise [k0_pay19]

theorem slt64 : ∀ l : Fin 128, IntOp.cmpi .slt (BitVec.ofNat 32 l.val) 64#32 = if l.val < 64 then 1#1 else 0#1 := by
  decide +kernel

theorem half_apply : k0_pay14 (ix2 r l) = if l.val < 64 then 1#1 else 0#1 := by
  rw [← slt64]; pointwise [k0_pay14]

theorem quad_apply : k0_pay17 p f (ix2 r l)
    = IntOp.addi (quad (p (ix2 r 0) * f (ix2 0 l))) (if l.val < 64 then 1#32 else 0#32) := by
  have h : (if l.val < 64 then 1#32 else 0#32) = Scalar.select (k0_pay14 (ix2 r l)) 1#32 0#32 := by
    rw [half_apply]; split <;> rfl
  rw [h, quad, ← turns_apply p f r l]; pointwise [k0_pay17]; rfl

/-- The table before its halves are arranged: the cosine in the first half's lanes, the sine in the second's. -/
def tabV : FVec Ideal S128x128 .f32 :=
  k0_pay23 (k0_pay17 p f) (k0_pay19 p f) (k0_pay20 p f) (k0_pay21 p f) (k0_pay22 p f) (FloatOps.ofBits .f32 1026206373#32)

theorem trig_apply (q : IVec S128x128 32) (a b c d : FVec Ideal S128x128 .f32) (e : EReal) :
    k0_pay23 (F := Ideal) q a b c d e (ix2 r l)
      = trigK (q (ix2 r l)) (a (ix2 r l)) (b (ix2 r l) + c (ix2 r l) * (e + d (ix2 r l))) := by
  pointwise [k0_pay23, trigK]

theorem cosP_apply :
    k0_pay20 p f (ix2 r l) + k0_pay21 p f (ix2 r l) * (FloatOps.ofBits (F := Ideal) .f32 1026206373#32 + k0_pay22 p f (ix2 r l))
      = cosP (rest (p (ix2 r 0) * f (ix2 0 l))) := by
  rw [cosP, ← rest_apply p f r l, ← sq_apply p f r l]; pointwise [k0_pay20, k0_pay21, k0_pay22]

theorem tabV_apply : tabV p f (ix2 r l)
    = if l.val < 64 then cosA (p (ix2 r 0) * f (ix2 0 l)) else sinA (p (ix2 r 0) * f (ix2 0 l)) := by
  rw [tabV, trig_apply, cosP_apply, sin_apply, quad_apply]
  split
  · rw [trigK_succ, cosA]
  · rw [trigK_self, sinA]
    simp [IntOp.addi]

/-- The table of cosines. -/
def cosV : FVec Ideal S128x128 .f32 :=
  k0_pay25 k0_pay14 (k0_pay17 p f) (k0_pay19 p f) (k0_pay20 p f) (k0_pay21 p f) (k0_pay22 p f) (FloatOps.ofBits .f32 1026206373#32)

/-- The table of signed sines. -/
def sinV : FVec Ideal S128x128 .f32 :=
  k0_pay26 k0_pay14 (k0_pay17 p f) (k0_pay19 p f) (k0_pay20 p f) (k0_pay21 p f) (k0_pay22 p f) (FloatOps.ofBits .f32 1026206373#32)

theorem rotV_apply (v : FVec Ideal S128x128 .f32) :
    dynamicRotate 1 64#32 none v rotates_S128x128_d1 (ix2 r l) = v (ix2 r (rot l)) := by pointwise [rot]

theorem cosV_eq : cosV p f = select k0_pay14 (tabV p f) (dynamicRotate 1 64#32 none (tabV p f) rotates_S128x128_d1) := rfl

theorem sinV_eq : sinV p f = select k0_pay14
    (subf (broadcast S128x128 (Scalar.ofBits .f32 0x00000000#32)) (dynamicRotate 1 64#32 none (tabV p f) rotates_S128x128_d1))
    (tabV p f) := rfl

theorem selV_apply (b : IVec S128x128 1) (u v : FVec Ideal S128x128 .f32) :
    select b u v (ix2 r l) = Scalar.select (b (ix2 r l)) (u (ix2 r l)) (v (ix2 r l)) := rfl

theorem negV_apply (v : FVec Ideal S128x128 .f32) :
    subf (broadcast S128x128 (Scalar.ofBits .f32 0x00000000#32)) v (ix2 r l) = 0 - v (ix2 r l) := by pointwise

variable (F : Fin 64 → EReal) (hf : ∀ l : Fin 128, f (ix2 0 l) = F (freq l))

include hf

theorem cosV_apply : cosV p f (ix2 r l) = cosA (p (ix2 r 0) * F (freq l)) := by
  rw [cosV_eq, selV_apply, rotV_apply, half_apply, tabV_apply, tabV_apply]
  by_cases h : l.val < 64
  · simp only [if_pos h, hf]; rfl
  · have hr : (rot l).val = l.val - 64 := by simp only [rot]; omega
    have hl : (rot l).val < 64 := by omega
    have e : freq (rot l) = freq l := Fin.ext (show (rot l).val % 64 = l.val % 64 by omega)
    simp only [if_neg h, if_pos hl, hf, e]; rfl

theorem sinV_apply : sinV p f (ix2 r l)
    = if l.val < 64 then 0 - sinA (p (ix2 r 0) * F (freq l))
      else sinA (p (ix2 r 0) * F (freq l)) := by
  rw [sinV_eq, selV_apply, negV_apply, rotV_apply, half_apply, tabV_apply, tabV_apply]
  by_cases h : l.val < 64
  · have hr : (rot l).val = l.val + 64 := by simp only [rot]; omega
    have hl : ¬ (rot l).val < 64 := by omega
    have e : freq (rot l) = freq l := Fin.ext (show (rot l).val % 64 = l.val % 64 by omega)
    simp only [if_pos h, if_neg hl, hf, e]; rfl
  · simp only [if_neg h, hf]; rfl

end Table

section Head

variable (C S u : FVec Ideal S128x128 .f32) (g : Vec Ideal S1x128 .f32) (r l : Fin 128)

theorem head_apply : k0_pay35 C S u g (ix2 r l)
    = headK (fun k => u (ix2 r k)) (fun k => g (ix2 0 k)) (fun k => C (ix2 r k)) (fun k => S (ix2 r k)) l := by
  pointwise [k0_pay35, headK, rmsK, rot]

theorem pair0_apply (a b : FVec Ideal S128x128 .f32) : k0_pay41 a b (ix3 r 0 l) = a (ix2 r l) := by pointwise [k0_pay41]

theorem pair1_apply (a b : FVec Ideal S128x128 .f32) : k0_pay41 a b (ix3 r 1 l) = b (ix2 r l) := by pointwise [k0_pay41]

theorem tile_apply (cd : Vec Ideal S128x4096 .fp8e4m3) (W : Vec Ideal S4096x512 .fp8e4m3) (c : Fin 512) :
    tileV cd W (ix2 r c) = ∑ k, cd (ix2 r k) * W (ix2 k c) := by pointwise [tileV, k0_pay43, k0_pay27]

theorem uV_apply (o : ℕ) (h : S128x512.Slices ![0, o] S128x128) (y : FVec Ideal S128x512 .f32) (sc : FVec Ideal S128x128 .f32)
    (s : Vec Ideal S1x128 .f32) (ho : o + l.val < 512) :
    uV o h y sc s (ix2 r l) = y (ix2 r ⟨o + l.val, ho⟩) * sc (ix2 r l) * s (ix2 0 l) := by
  have e : extractStridedSlice S128x128 ![0, o] y h (ix2 r l) = y (ix2 r ⟨o + l.val, ho⟩) :=
    extractStridedSlice_apply _ _ _ _ _ fun a => by
      refine a.cases ?_ fun a => ?_
      · show r.val = 0 + r.val; omega
      · obtain rfl : a = 0 := Subsingleton.elim _ _
        rfl
  rw [← e]; pointwise [uV]

end Head

end Cert.Proof.Ker

end
-- ==== Proof.Spec.lean ====
/- The five results as functions of the seven arguments, in the reference's arithmetic, entry by entry. -/
module

public import proofs.«01_k».proof.Proof.Gen.KernelIdeal.Skeleton
public import proofs.«01_k».proof.Proof.Gen.ReferenceIdeal.Skeleton
public import proofs.«01_k».proof.Proof.Norm
public import proofs.«01_k».proof.Proof.Rope

@[expose] public section

set_option maxRecDepth 16384

noncomputable section

namespace Cert.Proof

open Idealize.ShloMosaic Cert.KernelIdeal

/-- The column of a number. -/
def colN (n : ℕ) : Fin 6144 := ⟨n % 6144, Nat.mod_lt _ (by norm_num)⟩

/-- The batch a row belongs to. -/
def batchOf (R : Fin 1152) : Fin 3 := ⟨R.val / 384, by have := R.isLt; omega⟩

/-- The place of a row in its batch. -/
def placeOf (R : Fin 1152) : Fin 384 := ⟨R.val % 384, Nat.mod_lt _ (by norm_num)⟩

/-- The rotation frequencies. -/
def freqs (e : Fin 64) : EReal := FloatOps.ofBits (F := Ideal) .f32 (Cert.ReferenceIdeal.lit0 e)

variable (a0 : S3x384x4096.Idx → EReal) (a1 : S4096.Idx → EReal) (a2 : S4096x6144.Idx → EReal) (a3 : S6144.Idx → EReal)
  (g : S128.Idx → EReal) (a6 : S3x384.Idx → BitVec 32)

/-- A row normalised. -/
def rowS (R : Fin 1152) : Fin 4096 → EReal :=
  nrmR (fun k => a0 (ix3 (batchOf R) (placeOf R) k)) (fun k => a1 (ix1 k))

/-- The projection of a row, at a column. -/
def projS (R : Fin 1152) (n : ℕ) : EReal :=
  projR (fun k => a0 (ix3 (batchOf R) (placeOf R) k)) (fun k => a1 (ix1 k)) (fun k => a2 (ix2 k (colN n)))
    (a3 (ix1 (colN n)))

/-- A head normalised and rotated. -/
def headS (base : ℕ) (R : Fin 1152) (h : ℕ) (l : Fin 128) : EReal :=
  headR (fun k => projS a0 a1 a2 a3 R ((base + h) * 128 + k.val)) (fun k => g (ix1 k))
    (fun e => ang (a6 (ix2 (batchOf R) (placeOf R))) (freqs e)) l

/-- The queries. -/
def qS : S1152x32x128.Idx → EReal := fun i => headS a0 a1 a2 a3 g a6 0 (i 0) (i 1).val (i 2)

/-- The keys. -/
def kS : S1152x8x128.Idx → EReal := fun i => headS a0 a1 a2 a3 g a6 32 (i 0) (i 1).val (i 2)

/-- The values. -/
def vS : S1152x8x128.Idx → EReal := fun i => projS a0 a1 a2 a3 (i 0) ((40 + (i 1).val) * 128 + (i 2).val)

/-- The codes of the normalised rows. -/
def codeS : S1152x4096.Idx → EReal := fun i => codeR (rowS a0 a1 (i 0)) (i 1)

/-- The row that a place of the array of scales belongs to. -/
def rowOf (t : Fin 9) (l : Fin 128) : Fin 1152 := ⟨t.val * 128 + l.val, by have := t.isLt; have := l.isLt; omega⟩

/-- The scales of the rows. -/
def scaleS : S9x1x128.Idx → EReal := fun i => scaleR (rowS a0 a1 (rowOf (i 0) (i 2)))

end Cert.Proof

end
-- ==== Proof.KBlock.lean ====
/- What the kernel's outputs hold over one block of 128 rows, in terms of the rows of its operands. -/
module

public import proofs.«01_k».proof.Proof.KRow
public import proofs.«01_k».proof.Proof.KTable
public import proofs.«01_k».proof.Proof.Spec

@[expose] public section

set_option maxRecDepth 16384

noncomputable section

namespace Cert.Proof.Ker

open Idealize.ShloMosaic Cert.KernelIdeal Cert.KernelIdeal.Gen

variable (x : Vec Ideal S128x4096 .bf16) (w : Vec Ideal S1x4096 .f32) (W : Vec Ideal S4096x6144 .fp8e4m3)
  (s : Vec Ideal S1x6144 .f32) (g : Vec Ideal S1x128 .f32) (p : Vec Ideal S1x1x128 .i32) (f : Vec Ideal S1x128 .f32)

/-- The projection's entry at a row of the block and a column. -/
def projB (r : Fin 128) (n : ℕ) : EReal :=
  projK (fun k => x (ix2 r k)) (fun k => w (ix2 0 k)) (fun k => W (ix2 k (colN n))) (s (ix2 0 (colN n)))

theorem ldW_apply (O : ℕ) (h : ∀ a : Fin 2, (![0, O] : Fin 2 → ℕ) a + (![4096, 512] : Fin 2 → ℕ) a ≤ S4096x6144.size a)
    (k : Fin 4096) (c : Fin 512) (ho : O + c.val < 6144) :
    View.ld W (Rect.unit ![0, O] ![4096, 512] h) (ix2 k c) = W (ix2 k ⟨O + c.val, ho⟩) := by
  rw [View.ld_unit]
  exact extractStridedSlice_apply _ _ _ _ _ fun a => by
    refine a.cases ?_ fun a => ?_
    · show k.val = 0 + k.val; omega
    · obtain rfl : a = 0 := Subsingleton.elim _ _
      rfl

theorem lds_apply (O : ℕ) (h : ∀ a : Fin 2, (![0, O] : Fin 2 → ℕ) a + (![1, 128] : Fin 2 → ℕ) a ≤ S1x6144.size a)
    (l : Fin 128) (ho : O + l.val < 6144) :
    View.ld s (Rect.unit ![0, O] ![1, 128] h) (ix2 0 l) = s (ix2 0 ⟨O + l.val, ho⟩) := by
  rw [View.ld_unit]
  exact extractStridedSlice_apply _ _ _ _ _ fun a => by
    refine a.cases ?_ fun a => ?_
    · rfl
    · obtain rfl : a = 0 := Subsingleton.elim _ _
      rfl

/-- A head before the normalisation. -/
theorem uB_apply (O o n : ℕ) (ho : S128x512.Slices ![0, o] S128x128)
    (h : ∀ a : Fin 2, (![0, O] : Fin 2 → ℕ) a + (![4096, 512] : Fin 2 → ℕ) a ≤ S4096x6144.size a)
    (h' : ∀ a : Fin 2, (![0, n] : Fin 2 → ℕ) a + (![1, 128] : Fin 2 → ℕ) a ≤ S1x6144.size a)
    (hn : n = O + o) (hO : o + 128 ≤ 512) (r l : Fin 128) :
    uV o ho (tileV (codes x w) (View.ld W (Rect.unit ![0, O] ![4096, 512] h))) (k0_pay9 (kexp x w))
        (View.ld s (Rect.unit ![0, n] ![1, 128] h')) (ix2 r l)
      = projB x w W s r (n + l.val) := by
  have h1 : n + 128 ≤ 6144 := h' 1
  have e : colN (n + l.val) = ⟨n + l.val, by omega⟩ := Fin.ext (Nat.mod_eq_of_lt (by omega))
  rw [uV_apply r l o ho _ _ _ (by omega), tile_apply, scale_apply, lds_apply s n h' l (by omega), projB, projK, e]
  subst hn
  refine congrArg (fun z => z * _ * _) (Finset.sum_congr rfl fun k _ => ?_)
  rw [codes_apply, ldW_apply W O h k _ (show O + (o + l.val) < 6144 by omega)]
  refine congrArg (fun i => _ * W (ix2 k i)) (Fin.ext ?_)
  show O + (o + l.val) = O + o + l.val
  omega

/-- A head of the kernel, over the block. -/
def headB (F : Fin 64 → EReal) (base : ℕ) (r : Fin 128) (h : ℕ) (l : Fin 128) : EReal :=
  headR (fun k => projB x w W s r ((base + h) * 128 + k.val)) (fun k => g (ix2 0 k)) (fun e => ang (p (ix3 0 0 r)) (F e)) l

variable (F : Fin 64 → EReal) (hf : ∀ l : Fin 128, f (ix2 0 l) = F (freq l))

include hf

/-- A normalised and rotated head is the reference's arithmetic of the same projection. -/
theorem headB_apply (u : FVec Ideal S128x128 .f32) (base h : ℕ) (r l : Fin 128)
    (hu : ∀ k : Fin 128, u (ix2 r k) = projB x w W s r ((base + h) * 128 + k.val)) :
    k0_pay35 (cosV (k0_pay12 k0_pay3 p) f) (sinV (k0_pay12 k0_pay3 p) f) u g (ix2 r l) = headB x w W s g p F base r h l := by
  rw [head_apply, headB, headK_eq_freq (a := fun e => ang (p (ix3 0 0 r)) (F e))]
  · simp only [hu]
  · intro k
    rw [cosV_apply _ f r k F hf, pos_apply, ang]
  · intro k
    rw [sinV_apply _ f r k F hf, pos_apply, ang]

variable (base off O oA oB cA cB : ℕ) (hA : S128x512.Slices ![0, oA] S128x128) (hB : S128x512.Slices ![0, oB] S128x128)
    (h : ∀ a : Fin 2, (![0, O] : Fin 2 → ℕ) a + (![4096, 512] : Fin 2 → ℕ) a ≤ S4096x6144.size a)
    (h1 : ∀ a : Fin 2, (![0, cA] : Fin 2 → ℕ) a + (![1, 128] : Fin 2 → ℕ) a ≤ S1x6144.size a)
    (h2 : ∀ a : Fin 2, (![0, cB] : Fin 2 → ℕ) a + (![1, 128] : Fin 2 → ℕ) a ≤ S1x6144.size a)

/-- A stored pair of rotated heads. -/
theorem pairB (hcA : cA = O + oA) (hcB : cB = O + oB) (hoA : oA + 128 ≤ 512) (hoB : oB + 128 ≤ 512)
    (eA : cA = (base + off) * 128) (eB : cB = (base + (off + 1)) * 128) (r : Fin 128) (b : Fin 2) (l : Fin 128) :
    pairV (cosV (k0_pay12 k0_pay3 p) f) (sinV (k0_pay12 k0_pay3 p) f)
        (uV oA hA (tileV (codes x w) (View.ld W (Rect.unit ![0, O] ![4096, 512] h))) (k0_pay9 (kexp x w))
          (View.ld s (Rect.unit ![0, cA] ![1, 128] h1)))
        (uV oB hB (tileV (codes x w) (View.ld W (Rect.unit ![0, O] ![4096, 512] h))) (k0_pay9 (kexp x w))
          (View.ld s (Rect.unit ![0, cB] ![1, 128] h2))) g (ix3 r b l)
      = headB x w W s g p F base r (off + b.val) l := by
  fin_cases b
  · refine (pair0_apply r l _ _).trans (headB_apply x w W s g p f F hf _ base off r l fun k => ?_)
    rw [uB_apply x w W s O oA cA hA h h1 hcA hoA r k, eA]
  · refine (pair1_apply r l _ _).trans (headB_apply x w W s g p f F hf _ base (off + 1) r l fun k => ?_)
    rw [uB_apply x w W s O oB cB hB h h2 hcB hoB r k, eB]

omit hf in
/-- A stored pair of value heads. -/
theorem plainB (hcA : cA = O + oA) (hcB : cB = O + oB) (hoA : oA + 128 ≤ 512) (hoB : oB + 128 ≤ 512)
    (eA : cA = (base + off) * 128) (eB : cB = (base + (off + 1)) * 128) (r : Fin 128) (b : Fin 2) (l : Fin 128) :
    k0_pay41
        (uV oA hA (tileV (codes x w) (View.ld W (Rect.unit ![0, O] ![4096, 512] h))) (k0_pay9 (kexp x w))
          (View.ld s (Rect.unit ![0, cA] ![1, 128] h1)))
        (uV oB hB (tileV (codes x w) (View.ld W (Rect.unit ![0, O] ![4096, 512] h))) (k0_pay9 (kexp x w))
          (View.ld s (Rect.unit ![0, cB] ![1, 128] h2))) (ix3 r b l)
      = projB x w W s r ((base + (off + b.val)) * 128 + l.val) := by
  fin_cases b
  · refine (pair0_apply r l _ _).trans ?_
    rw [uB_apply x w W s O oA cA hA h h1 hcA hoA r l, eA]; rfl
  · refine (pair1_apply r l _ _).trans ?_
    rw [uB_apply x w W s O oB cB hB h h2 hcB hoB r l, eB]

omit hf in
/-- A function of a row, a head and a lane, read where a store of a pair of the 32 heads puts an entry. -/
theorem emb32_head (off : ℕ) (h : ∀ a : Fin 3, (![0, off, 0] : Fin 3 → ℕ) a + (![128, 2, 128] : Fin 3 → ℕ) a ≤ S128x32x128.size a)
    (G : Fin 128 → ℕ → Fin 128 → EReal) (a : Fin 128) (b : Fin 2) (e : Fin 128) :
    (fun i : S128x32x128.Idx => G (i 0) (i 1).val (i 2)) ((Rect.unit (s := S128x32x128) ![0, off, 0] ![128, 2, 128] h).emb (ix3 a b e))
      = G a (off + b.val) e := by
  have h0 : (Rect.unit (s := S128x32x128) ![0, off, 0] ![128, 2, 128] h).emb (ix3 a b e) 0 = a :=
    Fin.ext (show 0 + 1 * a.val = a.val by omega)
  have h1 : ((Rect.unit (s := S128x32x128) ![0, off, 0] ![128, 2, 128] h).emb (ix3 a b e) 1).val = off + b.val :=
    show off + 1 * b.val = off + b.val by omega
  have h2 : (Rect.unit (s := S128x32x128) ![0, off, 0] ![128, 2, 128] h).emb (ix3 a b e) 2 = e :=
    Fin.ext (show 0 + 1 * e.val = e.val by omega)
  show G _ _ _ = _
  rw [h0, h1, h2]

omit hf in
/-- A function of a row, a head and a lane, read where a store of a pair of the 8 heads puts an entry. -/
theorem emb8_head (off : ℕ) (h : ∀ a : Fin 3, (![0, off, 0] : Fin 3 → ℕ) a + (![128, 2, 128] : Fin 3 → ℕ) a ≤ S128x8x128.size a)
    (G : Fin 128 → ℕ → Fin 128 → EReal) (a : Fin 128) (b : Fin 2) (e : Fin 128) :
    (fun i : S128x8x128.Idx => G (i 0) (i 1).val (i 2)) ((Rect.unit (s := S128x8x128) ![0, off, 0] ![128, 2, 128] h).emb (ix3 a b e))
      = G a (off + b.val) e := by
  have h0 : (Rect.unit (s := S128x8x128) ![0, off, 0] ![128, 2, 128] h).emb (ix3 a b e) 0 = a :=
    Fin.ext (show 0 + 1 * a.val = a.val by omega)
  have h1 : ((Rect.unit (s := S128x8x128) ![0, off, 0] ![128, 2, 128] h).emb (ix3 a b e) 1).val = off + b.val :=
    show off + 1 * b.val = off + b.val by omega
  have h2 : (Rect.unit (s := S128x8x128) ![0, off, 0] ![128, 2, 128] h).emb (ix3 a b e) 2 = e :=
    Fin.ext (show 0 + 1 * e.val = e.val by omega)
  show G _ _ _ = _
  rw [h0, h1, h2]

end Cert.Proof.Ker

end
-- ==== Proof.KFlushQ.lean ====
/- The queries over one block of rows: sixteen stores, each of two heads. -/
module

public import proofs.«01_k».proof.Proof.Gen.KernelIdeal.Value
public import proofs.«01_k».proof.Proof.KBlock
public import proofs.«01_k».proof.Proof.KPieces
public import Idealize.ShloMosaic.Lib.Pipeline.ValueKit
public import Idealize.ShloMosaic.Lib.Pipeline.ReadBack

@[expose] public section

set_option maxRecDepth 16384

noncomputable section

namespace Cert.Proof.Ker

open Idealize.ShloMosaic Idealize.SL.Sem Cert.KernelIdeal Cert.KernelIdeal.Gen
open Idealize.ShloMosaic.TcCoe

variable (m : (ℓ : Loc nD τ sig) → Buf (Elt Ideal) ℓ)

set_option maxHeartbeats 4000000 in
/-- The block of queries that a grid point writes. -/
theorem flush8 (c : Dev nD) (t : Fin cfg0.N) (F : Fin 64 → EReal) (hf : ∀ l : Fin 128, iblk m c 7 t (ix2 0 l) = F (freq l)) (r : Fin 128) (h : Fin 32) (l : Fin 128) :
    (dats m 0 c).flushed 8 t (ix3 r h l)
      = headB (iblk m c 0 t) (iblk m c 1 t) (iblk m c 2 t) (iblk m c 3 t) (iblk m c 4 t) (iblk m c 6 t) F 0 r h.val l := by
  rw [Value.flushed8_A]
  frame_open
  simp (disch := decide) only [↓ View.readCov_skip, ↓ View.readCov_cons_toLoadRect, ↓ View.readCov_fill]
  frame_out
  revert hf
  generalize iblk m c 0 t = x0
  generalize iblk m c 1 t = x1
  generalize iblk m c 2 t = x2
  generalize iblk m c 3 t = x3
  generalize iblk m c 4 t = x4
  generalize iblk m c 6 t = x6
  generalize iblk m c 7 t = x7
  intro hf
  refine (View.canon_apply_of_pieces (Val := Elt Ideal) (e := .bf16) (fun i : S128x32x128.Idx => headB x0 x1 x2 x3 x4 x6 F 0 (i 0) (i 1).val (i 2)) _ ?_ (ix3 r h l) ?_)
  · refine List.forall_mem_cons.2 ⟨fun (x : S128x2x128.Idx) => ?_, ?_⟩
    · refine (congrFun (q30_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 30 3584 256 384 3840 3968 _ _ _ _ _ (by norm_num) (by norm_num) (by norm_num) (by norm_num) (by norm_num) (by norm_num) a b e).trans (emb32_head 30 inb_S128x32x128_S128x2x128_0_30_0 (fun r h l => headB x0 x1 x2 x3 x4 x6 F 0 r h l) a b e).symm
    refine List.forall_mem_cons.2 ⟨fun (x : S128x2x128.Idx) => ?_, ?_⟩
    · refine (congrFun (q28_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 28 3584 0 128 3584 3712 _ _ _ _ _ (by norm_num) (by norm_num) (by norm_num) (by norm_num) (by norm_num) (by norm_num) a b e).trans (emb32_head 28 inb_S128x32x128_S128x2x128_0_28_0 (fun r h l => headB x0 x1 x2 x3 x4 x6 F 0 r h l) a b e).symm
    refine List.forall_mem_cons.2 ⟨fun (x : S128x2x128.Idx) => ?_, ?_⟩
    · refine (congrFun (q26_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 26 3072 256 384 3328 3456 _ _ _ _ _ (by norm_num) (by norm_num) (by norm_num) (by norm_num) (by norm_num) (by norm_num) a b e).trans (emb32_head 26 inb_S128x32x128_S128x2x128_0_26_0 (fun r h l => headB x0 x1 x2 x3 x4 x6 F 0 r h l) a b e).symm
    refine List.forall_mem_cons.2 ⟨fun (x : S128x2x128.Idx) => ?_, ?_⟩
    · refine (congrFun (q24_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 24 3072 0 128 3072 3200 _ _ _ _ _ (by norm_num) (by norm_num) (by norm_num) (by norm_num) (by norm_num) (by norm_num) a b e).trans (emb32_head 24 inb_S128x32x128_S128x2x128_0_24_0 (fun r h l => headB x0 x1 x2 x3 x4 x6 F 0 r h l) a b e).symm
    refine List.forall_mem_cons.2 ⟨fun (x : S128x2x128.Idx) => ?_, ?_⟩
    · refine (congrFun (q22_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 22 2560 256 384 2816 2944 _ _ _ _ _ (by norm_num) (by norm_num) (by norm_num) (by norm_num) (by norm_num) (by norm_num) a b e).trans (emb32_head 22 inb_S128x32x128_S128x2x128_0_22_0 (fun r h l => headB x0 x1 x2 x3 x4 x6 F 0 r h l) a b e).symm
    refine List.forall_mem_cons.2 ⟨fun (x : S128x2x128.Idx) => ?_, ?_⟩
    · refine (congrFun (q20_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 20 2560 0 128 2560 2688 _ _ _ _ _ (by norm_num) (by norm_num) (by norm_num) (by norm_num) (by norm_num) (by norm_num) a b e).trans (emb32_head 20 inb_S128x32x128_S128x2x128_0_20_0 (fun r h l => headB x0 x1 x2 x3 x4 x6 F 0 r h l) a b e).symm
    refine List.forall_mem_cons.2 ⟨fun (x : S128x2x128.Idx) => ?_, ?_⟩
    · refine (congrFun (q18_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 18 2048 256 384 2304 2432 _ _ _ _ _ (by norm_num) (by norm_num) (by norm_num) (by norm_num) (by norm_num) (by norm_num) a b e).trans (emb32_head 18 inb_S128x32x128_S128x2x128_0_18_0 (fun r h l => headB x0 x1 x2 x3 x4 x6 F 0 r h l) a b e).symm
    refine List.forall_mem_cons.2 ⟨fun (x : S128x2x128.Idx) => ?_, ?_⟩
    · refine (congrFun (q16_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 16 2048 0 128 2048 2176 _ _ _ _ _ (by norm_num) (by norm_num) (by norm_num) (by norm_num) (by norm_num) (by norm_num) a b e).trans (emb32_head 16 inb_S128x32x128_S128x2x128_0_16_0 (fun r h l => headB x0 x1 x2 x3 x4 x6 F 0 r h l) a b e).symm
    refine List.forall_mem_cons.2 ⟨fun (x : S128x2x128.Idx) => ?_, ?_⟩
    · refine (congrFun (q14_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 14 1536 256 384 1792 1920 _ _ _ _ _ (by norm_num) (by norm_num) (by norm_num) (by norm_num) (by norm_num) (by norm_num) a b e).trans (emb32_head 14 inb_S128x32x128_S128x2x128_0_14_0 (fun r h l => headB x0 x1 x2 x3 x4 x6 F 0 r h l) a b e).symm
    refine List.forall_mem_cons.2 ⟨fun (x : S128x2x128.Idx) => ?_, ?_⟩
    · refine (congrFun (q12_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 12 1536 0 128 1536 1664 _ _ _ _ _ (by norm_num) (by norm_num) (by norm_num) (by norm_num) (by norm_num) (by norm_num) a b e).trans (emb32_head 12 inb_S128x32x128_S128x2x128_0_12_0 (fun r h l => headB x0 x1 x2 x3 x4 x6 F 0 r h l) a b e).symm
    refine List.forall_mem_cons.2 ⟨fun (x : S128x2x128.Idx) => ?_, ?_⟩
    · refine (congrFun (q10_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 10 1024 256 384 1280 1408 _ _ _ _ _ (by norm_num) (by norm_num) (by norm_num) (by norm_num) (by norm_num) (by norm_num) a b e).trans (emb32_head 10 inb_S128x32x128_S128x2x128_0_10_0 (fun r h l => headB x0 x1 x2 x3 x4 x6 F 0 r h l) a b e).symm
    refine List.forall_mem_cons.2 ⟨fun (x : S128x2x128.Idx) => ?_, ?_⟩
    · refine (congrFun (q8_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 8 1024 0 128 1024 1152 _ _ _ _ _ (by norm_num) (by norm_num) (by norm_num) (by norm_num) (by norm_num) (by norm_num) a b e).trans (emb32_head 8 inb_S128x32x128_S128x2x128_0_8_0 (fun r h l => headB x0 x1 x2 x3 x4 x6 F 0 r h l) a b e).symm
    refine List.forall_mem_cons.2 ⟨fun (x : S128x2x128.Idx) => ?_, ?_⟩
    · refine (congrFun (q6_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 6 512 256 384 768 896 _ _ _ _ _ (by norm_num) (by norm_num) (by norm_num) (by norm_num) (by norm_num) (by norm_num) a b e).trans (emb32_head 6 inb_S128x32x128_S128x2x128_0_6_0 (fun r h l => headB x0 x1 x2 x3 x4 x6 F 0 r h l) a b e).symm
    refine List.forall_mem_cons.2 ⟨fun (x : S128x2x128.Idx) => ?_, ?_⟩
    · refine (congrFun (q4_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 4 512 0 128 512 640 _ _ _ _ _ (by norm_num) (by norm_num) (by norm_num) (by norm_num) (by norm_num) (by norm_num) a b e).trans (emb32_head 4 inb_S128x32x128_S128x2x128_0_4_0 (fun r h l => headB x0 x1 x2 x3 x4 x6 F 0 r h l) a b e).symm
    refine List.forall_mem_cons.2 ⟨fun (x : S128x2x128.Idx) => ?_, ?_⟩
    · refine (congrFun (q2_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 2 0 256 384 256 384 _ _ _ _ _ (by norm_num) (by norm_num) (by norm_num) (by norm_num) (by norm_num) (by norm_num) a b e).trans (emb32_head 2 inb_S128x32x128_S128x2x128_0_2_0 (fun r h l => headB x0 x1 x2 x3 x4 x6 F 0 r h l) a b e).symm
    refine List.forall_mem_cons.2 ⟨fun (x : S128x2x128.Idx) => ?_, ?_⟩
    · refine (congrFun (q0_eq _ _ (k0_pay9 (kexp x0 x1)) (codes x0 x1) _ _ _ x4) x).trans ?_
      obtain ⟨a, b, e, rfl⟩ : ∃ a b e, x = ix3 a b e := ⟨_, _, _, eq_ix3 x⟩
      exact (pairB x0 x1 x2 x3 x4 x6 x7 F hf 0 0 0 0 128 0 128 _ _ _ _ _ (by norm_num) (by norm_num) (by norm_num) (by norm_num) (by norm_num) (by norm_num) a b e).trans (emb32_head 0 inb_S128x32x128_S128x2x128_0_0_0 (fun r h l => headB x0 x1 x2 x3 x4 x6 F 0 r h l) a b e).symm
    · exact fun p hp => absurd hp List.not_mem_nil
  · exact View.cover_of_tiledL (s := S128x32x128) _ S128x2x128.size (by sl_kernel_rfl) (ix3 r h l)

end Cert.Proof.Ker

end
-- ==== Proof.KFlushK.lean ====
/- The keys over one block of rows: four stores, each of two heads. -/
module

public import proofs.«01_k».proof.Proof.Gen.KernelIdeal.Value
public import proofs.«01_k».proof.Proof.KBlock
public import proofs.«01_k».proof.Proof.KPieces
public import Idealize.ShloMosaic.Lib.Pipeline.ValueKit
public import Idealize.ShloMosaic.Lib.Pipeline.ReadBack

@[expose] public section

set_option maxRecDepth 16384

noncomputable section

namespace Cert.Proof.Ker

open Idealize.ShloMosaic Idealize.SL.Sem Cert.KernelIdeal Cert.KernelIdeal.Gen
open Idealize.ShloMosaic.TcCoe

variable (m : (ℓ : Loc nD τ sig) → Buf (Elt Ideal) ℓ)

set_option maxHeartbeats 4000000 in
/-- The block of keys that a grid point writes. -/
theorem flush9 (c : Dev nD) (t : Fin cfg0.N) (F : Fin 64 → EReal) (hf : ∀ l : Fin 128, iblk m c 7 t (ix2 0 l) = F (freq l)) (r : Fin 128) (h : Fin 8) (l : Fin 128) :
    (dats m 0 c).flushed 9 t (ix3 r h l)
      = headB (iblk m c 0 t) (iblk m c 1 t) (iblk m c 2 t) (iblk m c 3 t) (iblk m c 5 t) (iblk m c 6 t) F 32 r h.val l := by
  rw [Value.flushed9_A]
  frame_open
  simp (disch := decide) only [↓ View.readCov_skip, ↓ View.readCov_cons_toLoadRect, ↓ View.readCov_fill]
  frame_out
  revert hf
  generalize iblk m c 0 t = x0
  generalize iblk m c 1 t = x1
  generalize iblk m c 2 t = x2
  generalize iblk m c 3 t = x3
  generalize iblk m c 5 t = x5
  generalize iblk m c 6 t = x6
  generalize iblk m c 7 t = x7
  intro hf
  refine (View.canon_apply_of_pieces (Val := Elt Ideal) (e := .bf16) (fun i : S128x8x128.Idx => headB x0 x1 x2 x3 x5 x6 F 32 (i 0) (i 1).val (i 2)) _ ?_ (ix3 r h l) ?_)
  · refine List.forall_mem_cons.2 ⟨fun (x : S128x2x128.Idx) => ?_, ?_⟩
    · refine (congrFun (k6_eq _ _ (k0_pay9 (kexp x0 x1)) (codes x0 x1) _ _ _ x5) x).trans ?_
      obtain ⟨a, b, e, rfl⟩ : ∃ a b e, x = ix3 a b e := ⟨_, _, _, eq_ix3 x⟩
      exact (pairB x0 x1 x2 x3 x5 x6 x7 F hf 32 6 4608 256 384 4864 4992 _ _ _ _ _ (by norm_num) (by norm_num) (by norm_num) (by norm_num) (by norm_num) (by norm_num) a b e).trans (emb8_head 6 inb_S128x8x128_S128x2x128_0_6_0 (fun r h l => headB x0 x1 x2 x3 x5 x6 F 32 r h l) a b e).symm
    refine List.forall_mem_cons.2 ⟨fun (x : S128x2x128.Idx) => ?_, ?_⟩
    · refine (congrFun (k4_eq _ _ (k0_pay9 (kexp x0 x1)) (codes x0 x1) _ _ _ x5) x).trans ?_
      obtain ⟨a, b, e, rfl⟩ : ∃ a b e, x = ix3 a b e := ⟨_, _, _, eq_ix3 x⟩
      exact (pairB x0 x1 x2 x3 x5 x6 x7 F hf 32 4 4608 0 128 4608 4736 _ _ _ _ _ (by norm_num) (by norm_num) (by norm_num) (by norm_num) (by norm_num) (by norm_num) a b e).trans (emb8_head 4 inb_S128x8x128_S128x2x128_0_4_0 (fun r h l => headB x0 x1 x2 x3 x5 x6 F 32 r h l) a b e).symm
    refine List.forall_mem_cons.2 ⟨fun (x : S128x2x128.Idx) => ?_, ?_⟩
    · refine (congrFun (k2_eq _ _ (k0_pay9 (kexp x0 x1)) (codes x0 x1) _ _ _ x5) x).trans ?_
      obtain ⟨a, b, e, rfl⟩ : ∃ a b e, x = ix3 a b e := ⟨_, _, _, eq_ix3 x⟩
      exact (pairB x0 x1 x2 x3 x5 x6 x7 F hf 32 2 4096 256 384 4352 4480 _ _ _ _ _ (by norm_num) (by norm_num) (by norm_num) (by norm_num) (by norm_num) (by norm_num) a b e).trans (emb8_head 2 inb_S128x8x128_S128x2x128_0_2_0 (fun r h l => headB x0 x1 x2 x3 x5 x6 F 32 r h l) a b e).symm
    refine List.forall_mem_cons.2 ⟨fun (x : S128x2x128.Idx) => ?_, ?_⟩
    · refine (congrFun (k0_eq _ _ (k0_pay9 (kexp x0 x1)) (codes x0 x1) _ _ _ x5) x).trans ?_
      obtain ⟨a, b, e, rfl⟩ : ∃ a b e, x = ix3 a b e := ⟨_, _, _, eq_ix3 x⟩
      exact (pairB x0 x1 x2 x3 x5 x6 x7 F hf 32 0 4096 0 128 4096 4224 _ _ _ _ _ (by norm_num) (by norm_num) (by norm_num) (by norm_num) (by norm_num) (by norm_num) a b e).trans (emb8_head 0 inb_S128x8x128_S128x2x128_0_0_0 (fun r h l => headB x0 x1 x2 x3 x5 x6 F 32 r h l) a b e).symm
    · exact fun p hp => absurd hp List.not_mem_nil
  · exact View.cover_of_tiledL (s := S128x8x128) _ S128x2x128.size (by sl_kernel_rfl) (ix3 r h l)

end Cert.Proof.Ker

end
-- ==== Proof.KFlushV.lean ====
/- The values over one block of rows: four stores, each of two heads. -/
module

public import proofs.«01_k».proof.Proof.Gen.KernelIdeal.Value
public import proofs.«01_k».proof.Proof.KBlock
public import proofs.«01_k».proof.Proof.KPieces
public import Idealize.ShloMosaic.Lib.Pipeline.ValueKit
public import Idealize.ShloMosaic.Lib.Pipeline.ReadBack

@[expose] public section

set_option maxRecDepth 16384

noncomputable section

namespace Cert.Proof.Ker

open Idealize.ShloMosaic Idealize.SL.Sem Cert.KernelIdeal Cert.KernelIdeal.Gen
open Idealize.ShloMosaic.TcCoe

variable (m : (ℓ : Loc nD τ sig) → Buf (Elt Ideal) ℓ)

set_option maxHeartbeats 4000000 in
/-- The block of values that a grid point writes. -/
theorem flush10 (c : Dev nD) (t : Fin cfg0.N) (r : Fin 128) (h : Fin 8) (l : Fin 128) :
    (dats m 0 c).flushed 10 t (ix3 r h l)
      = projB (iblk m c 0 t) (iblk m c 1 t) (iblk m c 2 t) (iblk m c 3 t) r ((40 + h.val) * 128 + l.val) := by
  rw [Value.flushed10_A]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  refine (View.canon_apply_of_pieces (Val := Elt Ideal) (e := .bf16) (fun i : S128x8x128.Idx => projB x0 x1 x2 x3 (i 0) ((40 + (i 1).val) * 128 + (i 2).val)) _ ?_ (ix3 r h l) ?_)
  · refine List.forall_mem_cons.2 ⟨fun (x : S128x2x128.Idx) => ?_, ?_⟩
    · refine (congrFun (v6_eq (k0_pay9 (kexp x0 x1)) (codes x0 x1) _ _ _) x).trans ?_
      obtain ⟨a, b, e, rfl⟩ : ∃ a b e, x = ix3 a b e := ⟨_, _, _, eq_ix3 x⟩
      exact (plainB x0 x1 x2 x3 40 6 5632 256 384 5888 6016 _ _ _ _ _ (by norm_num) (by norm_num) (by norm_num) (by norm_num) (by norm_num) (by norm_num) a b e).trans (emb8_head 6 inb_S128x8x128_S128x2x128_0_6_0 (fun r h l => projB x0 x1 x2 x3 r ((40 + h) * 128 + l.val)) a b e).symm
    refine List.forall_mem_cons.2 ⟨fun (x : S128x2x128.Idx) => ?_, ?_⟩
    · refine (congrFun (v4_eq (k0_pay9 (kexp x0 x1)) (codes x0 x1) _ _ _) x).trans ?_
      obtain ⟨a, b, e, rfl⟩ : ∃ a b e, x = ix3 a b e := ⟨_, _, _, eq_ix3 x⟩
      exact (plainB x0 x1 x2 x3 40 4 5632 0 128 5632 5760 _ _ _ _ _ (by norm_num) (by norm_num) (by norm_num) (by norm_num) (by norm_num) (by norm_num) a b e).trans (emb8_head 4 inb_S128x8x128_S128x2x128_0_4_0 (fun r h l => projB x0 x1 x2 x3 r ((40 + h) * 128 + l.val)) a b e).symm
    refine List.forall_mem_cons.2 ⟨fun (x : S128x2x128.Idx) => ?_, ?_⟩
    · refine (congrFun (v2_eq (k0_pay9 (kexp x0 x1)) (codes x0 x1) _ _ _) x).trans ?_
      obtain ⟨a, b, e, rfl⟩ : ∃ a b e, x = ix3 a b e := ⟨_, _, _, eq_ix3 x⟩
      exact (plainB x0 x1 x2 x3 40 2 5120 256 384 5376 5504 _ _ _ _ _ (by norm_num) (by norm_num) (by norm_num) (by norm_num) (by norm_num) (by norm_num) a b e).trans (emb8_head 2 inb_S128x8x128_S128x2x128_0_2_0 (fun r h l => projB x0 x1 x2 x3 r ((40 + h) * 128 + l.val)) a b e).symm
    refine List.forall_mem_cons.2 ⟨fun (x : S128x2x128.Idx) => ?_, ?_⟩
    · refine (congrFun (v0_eq (k0_pay9 (kexp x0 x1)) (codes x0 x1) _ _ _) x).trans ?_
      obtain ⟨a, b, e, rfl⟩ : ∃ a b e, x = ix3 a b e := ⟨_, _, _, eq_ix3 x⟩
      exact (plainB x0 x1 x2 x3 40 0 5120 0 128 5120 5248 _ _ _ _ _ (by norm_num) (by norm_num) (by norm_num) (by norm_num) (by norm_num) (by norm_num) a b e).trans (emb8_head 0 inb_S128x8x128_S128x2x128_0_0_0 (fun r h l => projB x0 x1 x2 x3 r ((40 + h) * 128 + l.val)) a b e).symm
    · exact fun p hp => absurd hp List.not_mem_nil
  · exact View.cover_of_tiledL (s := S128x8x128) _ S128x2x128.size (by sl_kernel_rfl) (ix3 r h l)

end Cert.Proof.Ker

end
-- ==== Proof.KFlushC.lean ====
/- The codes and the scales over one block of rows. -/
module

public import proofs.«01_k».proof.Proof.Gen.KernelIdeal.Value
public import proofs.«01_k».proof.Proof.KBlock
public import Idealize.ShloMosaic.Lib.Pipeline.ValueKit
public import Idealize.ShloMosaic.Lib.Pipeline.ReadBack

@[expose] public section

set_option maxRecDepth 16384

noncomputable section

namespace Cert.Proof.Ker

open Idealize.ShloMosaic Idealize.SL.Sem Cert.KernelIdeal Cert.KernelIdeal.Gen
open Idealize.ShloMosaic.TcCoe

variable (m : (ℓ : Loc nD τ sig) → Buf (Elt Ideal) ℓ)

/-- The block of codes that a grid point writes. -/
theorem flush11 (c : Dev nD) (t : Fin cfg0.N) (r : Fin 128) (j : Fin 4096) :
    (dats m 0 c).flushed 11 t (ix2 r j)
      = codeK (nrmK (fun k => iblk m c 0 t (ix2 r k)) (fun k => iblk m c 1 t (ix2 0 k))) j := by
  rw [Value.flushed11_A]
  frame_open
  frame_out
  generalize iblk m c 0 t = x0
  generalize iblk m c 1 t = x1
  exact codes_apply x0 x1 r j

/-- The block of scales that a grid point writes. -/
theorem flush12 (c : Dev nD) (t : Fin cfg0.N) (l : Fin 128) :
    (dats m 0 c).flushed 12 t (ix3 0 0 l)
      = scaleK (nrmK (fun k => iblk m c 0 t (ix2 l k)) (fun k => iblk m c 1 t (ix2 0 k))) := by
  rw [Value.flushed12_A]
  frame_open
  frame_out
  generalize iblk m c 0 t = x0
  generalize iblk m c 1 t = x1
  exact scaleOut_apply x0 x1 l

end Cert.Proof.Ker

end
-- ==== Proof.KArr.lean ====
/- The kernel's five result arrays are the reference's arithmetic of the arguments, when the normalisation weights are finite. -/
module

public import proofs.«01_k».proof.Proof.KFlushQ
public import proofs.«01_k».proof.Proof.KFlushK
public import proofs.«01_k».proof.Proof.KFlushV
public import proofs.«01_k».proof.Proof.KFlushC
public import proofs.«01_k».proof.Proof.Spec

@[expose] public section

set_option maxRecDepth 16384

noncomputable section

namespace Cert.Proof.Ker

open Idealize.ShloMosaic Idealize.SL.Sem Cert.KernelIdeal Cert.KernelIdeal.Gen
open Idealize.ShloMosaic.TcCoe

variable (m : (ℓ : Loc nD τ sig) → Buf (Elt Ideal) ℓ) (c : Dev nD)

/-- The block that each window has at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0, 0]
    ∧ win0_7.index t = ![0, 0] ∧ win0_8.index t = ![t.val, 0, 0] ∧ win0_9.index t = ![t.val, 0, 0]
    ∧ win0_10.index t = ![t.val, 0, 0] ∧ win0_11.index t = ![t.val, 0] ∧ win0_12.index t = ![t.val, 0, 0] :=
  (by decide +kernel : ∀ t : Fin grid0.N, _)

/-- The kernel's table of frequencies repeats the reference's. -/
theorem lit_eq : ∀ l : Fin 128, lit0 (S128.rowMajor (ix1 l)) = Cert.ReferenceIdeal.lit0 (freq l) := by decide +kernel

/-- The row of the array that a row of a point's block is. -/
def rowAt (t : Fin cfg0.N) (r : Fin 128) : Fin 1152 := rowOf (t : Fin 9) r

theorem rowAt_val (t : Fin cfg0.N) (r : Fin 128) : (rowAt t r).val = t.val * 128 + r.val := rfl

abbrev A0 : S3x384x4096.Idx → EReal := m ((c : Thread nD τ).loc main_arg0)
abbrev A1 : S4096.Idx → EReal := m ((c : Thread nD τ).loc main_arg1)
abbrev A2 : S4096x6144.Idx → EReal := m ((c : Thread nD τ).loc main_arg2)
abbrev A3 : S6144.Idx → EReal := m ((c : Thread nD τ).loc main_arg3)
abbrev A4 : S128.Idx → EReal := m ((c : Thread nD τ).loc main_arg4)
abbrev A5 : S128.Idx → EReal := m ((c : Thread nD τ).loc main_arg5)
abbrev A6 : S3x384.Idx → BitVec 32 := m ((c : Thread nD τ).loc main_arg6)

variable (t : Fin cfg0.N)

theorem in0 (r : Fin 128) (k : Fin 4096) :
    iblk m c 0 t (ix2 r k) = A0 m c (ix3 (batchOf (rowAt t r)) (placeOf (rowAt t r)) k) := by
  have e : iblk m c 0 t (ix2 r k) = V m c main_v1 (ix2 (rowAt t r) k) := by
    have := rowAt_val t r
    blk_ext [iblk, idx t]
  rw [e]
  entry_read
  pointwise [batchOf, placeOf]

theorem in1 (k : Fin 4096) : iblk m c 1 t (ix2 0 k) = A1 m c (ix1 k) := by
  have e : iblk m c 1 t (ix2 0 k) = V m c main_v2 (ix2 0 k) := by
    blk_ext [iblk, idx t]
  rw [e]
  entry_read
  pointwise

theorem in2 (k : Fin 4096) (n : Fin 6144) : iblk m c 2 t (ix2 k n) = A2 m c (ix2 k n) := by
  have e : iblk m c 2 t (ix2 k n) = V m c main_arg2 (ix2 k n) := by
    blk_ext [iblk, idx t]
  rw [e, V_main_arg2]

theorem in3 (n : Fin 6144) : iblk m c 3 t (ix2 0 n) = A3 m c (ix1 n) := by
  have e : iblk m c 3 t (ix2 0 n) = V m c main_v3 (ix2 0 n) := by
    blk_ext [iblk, idx t]
  rw [e]
  entry_read
  pointwise

theorem in4 (k : Fin 128) : iblk m c 4 t (ix2 0 k) = A4 m c (ix1 k) := by
  have e : iblk m c 4 t (ix2 0 k) = V m c main_v4 (ix2 0 k) := by
    blk_ext [iblk, idx t]
  rw [e]
  entry_read
  pointwise

theorem in5 (k : Fin 128) : iblk m c 5 t (ix2 0 k) = A5 m c (ix1 k) := by
  have e : iblk m c 5 t (ix2 0 k) = V m c main_v5 (ix2 0 k) := by
    blk_ext [iblk, idx t]
  rw [e]
  entry_read
  pointwise

theorem in6 (r : Fin 128) : iblk m c 6 t (ix3 0 0 r) = A6 m c (ix2 (batchOf (rowAt t r)) (placeOf (rowAt t r))) := by
  have e : iblk m c 6 t (ix3 0 0 r) = V m c main_v6 (ix3 (t : Fin 9) 0 r) := by
    blk_ext [iblk, idx t]
  rw [e]
  entry_read
  pointwise
  have hv := rowAt_val t r
  have hr := r.isLt
  congr 2
  · exact Fin.ext (show t.val / 3 = (rowAt t r).val / 384 by omega)
  · exact Fin.ext (show t.val % 3 * 128 + r.val = (rowAt t r).val % 384 by omega)

theorem in7 (l : Fin 128) : iblk m c 7 t (ix2 0 l) = freqs (freq l) := by
  have e : iblk m c 7 t (ix2 0 l) = V m c main_v0 (ix2 0 l) := by
    blk_ext [iblk, idx t]
  rw [e]
  entry_read
  pointwise
  rw [freqs, ← lit_eq]
  rfl

/-- The projection over a block is the reference's projection of the block's rows. -/
theorem projB_eq (hw : ∀ k, FloatOps.absf (F := Ideal) (φ := .f32) (A1 m c (ix1 k)) ≤ Ideal.ofBits .f32 0x7F7FFFFF#32)
    (r : Fin 128) (n : ℕ) :
    projB (iblk m c 0 t) (iblk m c 1 t) (iblk m c 2 t) (iblk m c 3 t) r n
      = projS (A0 m c) (A1 m c) (A2 m c) (A3 m c) (rowAt t r) n := by
  rw [projB, projS]
  simp only [in0, in1, in2, in3]
  exact projK_eq _ _ _ _ hw

/-- A head over a block is the reference's head of the block's rows, for the queries. -/
theorem headQ_eq (hw : ∀ k, FloatOps.absf (F := Ideal) (φ := .f32) (A1 m c (ix1 k)) ≤ Ideal.ofBits .f32 0x7F7FFFFF#32)
    (base : ℕ) (r : Fin 128) (h : ℕ) (l : Fin 128) :
    headB (iblk m c 0 t) (iblk m c 1 t) (iblk m c 2 t) (iblk m c 3 t) (iblk m c 4 t) (iblk m c 6 t) freqs base r h l
      = headS (A0 m c) (A1 m c) (A2 m c) (A3 m c) (A4 m c) (A6 m c) base (rowAt t r) h l := by
  rw [headB, headS]
  simp only [projB_eq m c t hw, in4, in6]

/-- A head over a block is the reference's head of the block's rows, for the keys. -/
theorem headK_eq' (hw : ∀ k, FloatOps.absf (F := Ideal) (φ := .f32) (A1 m c (ix1 k)) ≤ Ideal.ofBits .f32 0x7F7FFFFF#32)
    (base : ℕ) (r : Fin 128) (h : ℕ) (l : Fin 128) :
    headB (iblk m c 0 t) (iblk m c 1 t) (iblk m c 2 t) (iblk m c 3 t) (iblk m c 5 t) (iblk m c 6 t) freqs base r h l
      = headS (A0 m c) (A1 m c) (A2 m c) (A3 m c) (A5 m c) (A6 m c) base (rowAt t r) h l := by
  rw [headB, headS]
  simp only [projB_eq m c t hw, in5, in6]

variable (hw : ∀ k, FloatOps.absf (F := Ideal) (φ := .f32) (A1 m c (ix1 k)) ≤ Ideal.ofBits .f32 0x7F7FFFFF#32)

include hw

/-- The array of queries. -/
theorem arr8 : (dats m 0 c).arrAt 8 cfg0.N = qS (A0 m c) (A1 m c) (A2 m c) (A3 m c) (A4 m c) (A6 m c) := by
  refine (dats m 0 c).arrAt_eq_of_covers (8 : Fin 13) _ (by decide +kernel) fun t hf y => ?_
  change (dats m 0 c).flushed 8 t y = _
  obtain ⟨r, h, l, rfl⟩ : ∃ (r : Fin 128) (h : Fin 32) (l : Fin 128), y = ix3 r h l := ⟨_, _, _, eq_ix3 y⟩
  refine (flush8 m c t freqs (in7 m c t) r h l).trans ((headQ_eq m c t hw 0 r h.val l).trans ?_)
  change qS (A0 m c) (A1 m c) (A2 m c) (A3 m c) (A4 m c) (A6 m c) (ix3 (rowAt t r) h l) = _
  have hv := rowAt_val t r
  blk_ext [idx t]

/-- The array of keys. -/
theorem arr9 : (dats m 0 c).arrAt 9 cfg0.N = kS (A0 m c) (A1 m c) (A2 m c) (A3 m c) (A5 m c) (A6 m c) := by
  refine (dats m 0 c).arrAt_eq_of_covers (9 : Fin 13) _ (by decide +kernel) fun t hf y => ?_
  change (dats m 0 c).flushed 9 t y = _
  obtain ⟨r, h, l, rfl⟩ : ∃ (r : Fin 128) (h : Fin 8) (l : Fin 128), y = ix3 r h l := ⟨_, _, _, eq_ix3 y⟩
  refine (flush9 m c t freqs (in7 m c t) r h l).trans ((headK_eq' m c t hw 32 r h.val l).trans ?_)
  change kS (A0 m c) (A1 m c) (A2 m c) (A3 m c) (A5 m c) (A6 m c) (ix3 (rowAt t r) h l) = _
  have hv := rowAt_val t r
  blk_ext [idx t]

/-- The array of values. -/
theorem arr10 : (dats m 0 c).arrAt 10 cfg0.N = vS (A0 m c) (A1 m c) (A2 m c) (A3 m c) := by
  refine (dats m 0 c).arrAt_eq_of_covers (10 : Fin 13) _ (by decide +kernel) fun t hf y => ?_
  change (dats m 0 c).flushed 10 t y = _
  obtain ⟨r, h, l, rfl⟩ : ∃ (r : Fin 128) (h : Fin 8) (l : Fin 128), y = ix3 r h l := ⟨_, _, _, eq_ix3 y⟩
  refine (flush10 m c t r h l).trans ((projB_eq m c t hw r _).trans ?_)
  change vS (A0 m c) (A1 m c) (A2 m c) (A3 m c) (ix3 (rowAt t r) h l) = _
  have hv := rowAt_val t r
  blk_ext [idx t]

/-- The array of codes. -/
theorem arr11 : (dats m 0 c).arrAt 11 cfg0.N = codeS (A0 m c) (A1 m c) := by
  refine (dats m 0 c).arrAt_eq_of_covers (11 : Fin 13) _ (by decide +kernel) fun t hf y => ?_
  change (dats m 0 c).flushed 11 t y = _
  obtain ⟨r, j, rfl⟩ : ∃ (r : Fin 128) (j : Fin 4096), y = ix2 r j := ⟨_, _, eq_ix2 y⟩
  refine (flush11 m c t r j).trans ?_
  simp only [in0, in1]
  refine (codeK_eq _ _ hw j).trans ?_
  change codeS (A0 m c) (A1 m c) (ix2 (rowAt t r) j) = _
  have hv := rowAt_val t r
  blk_ext [idx t]

/-- The array of scales. -/
theorem arr12 : (dats m 0 c).arrAt 12 cfg0.N = scaleS (A0 m c) (A1 m c) := by
  refine (dats m 0 c).arrAt_eq_of_covers (12 : Fin 13) _ (by decide +kernel) fun t hf y => ?_
  change (dats m 0 c).flushed 12 t y = _
  obtain ⟨z, h, l, rfl⟩ : ∃ (z : Fin 1) (h : Fin 1) (l : Fin 128), y = ix3 z h l := ⟨_, _, _, eq_ix3 y⟩
  obtain rfl : z = 0 := Subsingleton.elim _ _
  obtain rfl : h = 0 := Subsingleton.elim _ _
  refine (flush12 m c t l).trans ?_
  simp only [in0, in1]
  refine (scaleK_eq _ _ hw).trans ?_
  change scaleS (A0 m c) (A1 m c) (ix3 (t : Fin 9) 0 l) = _
  blk_ext [idx t]

end Cert.Proof.Ker

end
-- ==== Proof.KRun.lean ====
/- The kernel's run: with finite normalisation weights each result is the reference's function of the arguments. -/
module

public import proofs.«01_k».proof.Proof.KArr

@[expose] public section

set_option maxRecDepth 16384

noncomputable section

namespace Cert.Proof.Ker

open Idealize.ShloMosaic Idealize.SL.Sem Cert.KernelIdeal Cert.KernelIdeal.Gen
open Idealize.ShloMosaic.TcCoe

variable (m : (ℓ : Loc nD τ sig) → Buf (Elt Ideal) ℓ) (ρ : Dev nD → PrngReg)

/-- Every run of the kernel from finite normalisation weights ends with each result at its function of the arguments. -/
theorem run (hw : ∀ c k, FloatOps.absf (F := Ideal) (φ := .f32) (A1 m c (ix1 k)) ≤ Ideal.ofBits .f32 0x7F7FFFFF#32) :
    θ_run defs (onTc (τ := τ) (main (F := Ideal))) ⟨m, fun _ => 0, ρ⟩ fun r => ∀ c : Dev nD,
      r.2.mem ((c : Thread nD τ).loc main_v7_0) = qS (A0 m c) (A1 m c) (A2 m c) (A3 m c) (A4 m c) (A6 m c)
      ∧ r.2.mem ((c : Thread nD τ).loc main_v7_1) = kS (A0 m c) (A1 m c) (A2 m c) (A3 m c) (A5 m c) (A6 m c)
      ∧ r.2.mem ((c : Thread nD τ).loc main_v7_2) = vS (A0 m c) (A1 m c) (A2 m c) (A3 m c)
      ∧ r.2.mem ((c : Thread nD τ).loc main_v7_3) = codeS (A0 m c) (A1 m c)
      ∧ r.2.mem ((c : Thread nD τ).loc main_v7_4) = scaleS (A0 m c) (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(Value.post8 m r h c).trans (arr8 m c (hw c)),
      (Value.post9 m r h c).trans (arr9 m c (hw c)),
      (Value.post10 m r h c).trans (arr10 m c (hw c)),
      (Value.post11 m r h c).trans (arr11 m c (hw c)),
      (Value.post12 m r h c).trans (arr12 m c (hw c)),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c⟩)
    (run_main m ρ)

end Cert.Proof.Ker

end
-- ==== Proof.RefRow.lean ====
/- What the reference's payloads hold at an index, in terms of the rows of its operands. -/
module

public import proofs.«01_k».proof.Proof.Gen.ReferenceIdeal.Skeleton
public import proofs.«01_k».proof.Proof.Rope
public import Idealize.ShloMosaic.Lib.Pointwise

@[expose] public section

set_option maxRecDepth 16384

noncomputable section

namespace Cert.Proof.Ref

open Idealize.ShloMosaic Cert.ReferenceIdeal Cert.ReferenceIdeal.Gen

variable (x : Vec Ideal S1152x4096 .bf16) (w : Vec Ideal S1x4096 .f32)

/-- The rows normalised, from the rows in the wide format. -/
def normV (e : FVec Ideal S1152x4096 .f32) (w : Vec Ideal S1x4096 .f32) : FVec Ideal S1152x4096 .f32 :=
  mulf (mulf e (broadcastTo S1152x4096 (rsqrt (addf (divf (shapeCast S1152x1
      (multiReduction .add [1] S1152 (mulf e e) 0x00000000#32 reduces_S1152x4096_S1152 (.inl rfl) rfl)
      shapeCasts_S1152_S1152x1) (broadcast S1152x1 (Scalar.ofBits .f32 0x45800000#32)))
      (broadcast S1152x1 (Scalar.ofBits .f32 0x3727C5AC#32)))) broadcasts_S1152x1_S1152x4096))
    (broadcastTo S1152x4096 (shapeCast S1x4096 w shapeCasts_S1x4096_S1x4096) broadcasts_S1x4096_S1152x4096)

theorem normV_apply (e : FVec Ideal S1152x4096 .f32) (w : Vec Ideal S1x4096 .f32) (r : Fin 1152) (j : Fin 4096) :
    normV e w (ix2 r j) = nrmR (fun k => e (ix2 r k)) (fun k => w (ix2 0 k)) j := by pointwise [normV, nrmR]

/-- The rows in the wide format. -/
def wide : FVec Ideal S1152x4096 .f32 :=
  extf .f32 (shapeCast S1152x4096 x shapeCasts_S1152x4096_S1152x4096) bitsLt_bf16_f32

theorem wide_apply (r : Fin 1152) (k : Fin 4096) : wide x (ix2 r k) = x (ix2 r k) := by
  rw [wide, shapeCast_self]; rfl

theorem pay4_eq : k0_pay4 x w = normV (wide x) w := rfl

/-- The normalised entry. -/
theorem nrm_apply (r : Fin 1152) (j : Fin 4096) :
    k0_pay4 x w (ix2 r j) = nrmR (fun k => x (ix2 r k)) (fun k => w (ix2 0 k)) j := by
  rw [pay4_eq, normV_apply]
  simp only [wide_apply]

/-- The largest absolute entry of each row. -/
def amaxV (n : FVec Ideal S1152x4096 .f32) : FVec Ideal S1152x1 .f32 :=
  shapeCast S1152x1 (multiReduction .maximumf [1] S1152 (absf n) 0xFF800000#32 reduces_S1152x4096_S1152 (.inl rfl) rfl)
    shapeCasts_S1152_S1152x1

theorem amaxV_apply (n : FVec Ideal S1152x4096 .f32) (r : Fin 1152) :
    amaxV n (ix2 r 0) = amax (fun j => n (ix2 r j)) := by pointwise [amaxV, amax]

/-- The peak of each row. -/
def peakV (n : FVec Ideal S1152x4096 .f32) : FVec Ideal S1152x1 .f32 :=
  mulf (amaxV n) (broadcast S1152x1 (Scalar.ofBits .f32 0x3B124925#32))

theorem peakV_mul (v : FVec Ideal S1152x1 .f32) (r : Fin 1152) :
    mulf v (broadcast S1152x1 (Scalar.ofBits .f32 0x3B124925#32)) (ix2 r 0)
      = v (ix2 r 0) * Ideal.ofBits .f32 0x3B124925#32 := by pointwise

theorem peakV_apply (n : FVec Ideal S1152x4096 .f32) (r : Fin 1152) :
    peakV n (ix2 r 0) = peak (fun j => n (ix2 r j)) := by rw [peakV, peakV_mul, amaxV_apply, peak]

/-- The exponent of each row's peak. -/
def expV (v : FVec Ideal S1152x1 .f32) : FVec Ideal S1152x1 .f32 :=
  select (cmpf .olt v (broadcast S1152x1 (Scalar.ofBits .f32 0x00800000#32)))
    (broadcast S1152x1 (Scalar.ofBits .f32 0x00000000#32))
    (addf (floor (divf (log v) (log (broadcast S1152x1 (Scalar.ofBits .f32 0x40000000#32)))))
      (broadcast S1152x1 (Scalar.ofBits .f32 0x3F800000#32)))

theorem expV_apply (v : FVec Ideal S1152x1 .f32) (r : Fin 1152) : expV v (ix2 r 0) = refExp (v (ix2 r 0)) := by
  pointwise [expV, refExp]

theorem pay5_eq : k0_pay5 x w = expV (peakV (k0_pay4 x w)) := rfl

/-- The exponent of a row. -/
theorem exp_apply (r : Fin 1152) :
    k0_pay5 x w (ix2 r 0) = refExp (peak (nrmR (fun k => x (ix2 r k)) (fun k => w (ix2 0 k)))) := by
  rw [pay5_eq, expV_apply, peakV_apply]
  simp only [nrm_apply]

theorem exp2_apply {s : Shape} (v : FVec Ideal s .f32) (i : s.Idx) : exp2 v i = Ideal.exp2 (v i) := rfl

/-- The clipped codes. -/
def clipV (n : FVec Ideal S1152x4096 .f32) (inv : FVec Ideal S1152x1 .f32) : FVec Ideal S1152x4096 .fp8e4m3 :=
  truncf .fp8e4m3 (minimumf (broadcast S1152x4096 (Scalar.ofBits .f32 0x43E00000#32))
    (maximumf (broadcast S1152x4096 (Scalar.ofBits .f32 0xC3E00000#32))
      (mulf n (broadcastTo S1152x4096 inv broadcasts_S1152x1_S1152x4096)))) bitsLt_fp8e4m3_f32

theorem clipV_apply (n : FVec Ideal S1152x4096 .f32) (inv : FVec Ideal S1152x1 .f32) (r : Fin 1152) (j : Fin 4096) :
    clipV n inv (ix2 r j) = clip (n (ix2 r j)) (inv (ix2 r 0)) := by pointwise [clipV, clip]

theorem subf_apply0 (v : FVec Ideal S1152x1 .f32) (r : Fin 1152) :
    subf (broadcast S1152x1 (Scalar.ofBits .f32 0x00000000#32)) v (ix2 r 0)
      = Ideal.ofBits .f32 0x00000000#32 - v (ix2 r 0) := by pointwise

theorem pay6_eq : k0_pay6 x w
    = clipV (k0_pay4 x w) (exp2 (subf (broadcast S1152x1 (Scalar.ofBits .f32 0x00000000#32)) (k0_pay5 x w))) := rfl

/-- A code. -/
theorem code_apply (r : Fin 1152) (j : Fin 4096) :
    k0_pay6 x w (ix2 r j) = codeR (nrmR (fun k => x (ix2 r k)) (fun k => w (ix2 0 k))) j := by
  rw [pay6_eq, clipV_apply, exp2_apply, subf_apply0, exp_apply, nrm_apply, codeR]

theorem pay7_eq : k0_pay7 x w = exp2 (k0_pay5 x w) := rfl

/-- A row's scale. -/
theorem scale_apply (r : Fin 1152) :
    k0_pay7 x w (ix2 r 0) = scaleR (nrmR (fun k => x (ix2 r k)) (fun k => w (ix2 0 k))) := by
  rw [pay7_eq, exp2_apply, exp_apply, scaleR]

end Cert.Proof.Ref

end
-- ==== Proof.RefProj.lean ====
/- What the reference's payloads hold at an index, in terms of the rows of its operands. -/
module

public import proofs.«01_k».proof.Proof.Gen.ReferenceIdeal.Skeleton
public import proofs.«01_k».proof.Proof.Rope
public import Idealize.ShloMosaic.Lib.Pointwise

@[expose] public section

set_option maxRecDepth 16384

noncomputable section

namespace Cert.Proof.Ref

open Idealize.ShloMosaic Cert.ReferenceIdeal Cert.ReferenceIdeal.Gen

section Projection

variable (a : FVec Ideal S1152x4096 .fp8e4m3) (b : FVec Ideal S1152x1 .f32) (W : Vec Ideal S4096x6144 .fp8e4m3)
  (s : Vec Ideal S1x6144 .f32)

/-- The projection at a row and column. -/
theorem proj_apply (r : Fin 1152) (c : Fin 6144) :
    k0_pay8 a b W s (ix2 r c) = (∑ k, a (ix2 r k) * W (ix2 k c)) * b (ix2 r 0) * s (ix2 0 c) := by
  pointwise [k0_pay8]

theorem col_lt {n h l : ℕ} (o : ℕ) (hh : h < n) (hl : l < 128) (ho : o + n * 128 ≤ 6144) : o + (h * 128 + l) < 6144 := by
  have : h * 128 + 128 ≤ n * 128 := by omega
  omega

/-- The value heads. -/
theorem v_apply (r : Fin 1152) (h : Fin 8) (l : Fin 128) :
    k0_pay9 a b W s (ix3 r h l)
      = k0_pay8 a b W s (ix2 r ⟨5120 + (h.val * 128 + l.val), col_lt 5120 h.isLt l.isLt (by norm_num)⟩) := by
  pointwise [k0_pay9]

variable (y : FVec Ideal S1152x6144 .f32)

/-- The query heads, before the normalisation. -/
def qHeads : FVec Ideal S1152x32x128 .f32 :=
  shapeCast S1152x32x128 (extractStridedSlice S1152x4096 ![0, 0] y slices_S1152x6144_o0_0_S1152x4096)
    shapeCasts_S1152x4096_S1152x32x128

theorem qHeads_apply (r : Fin 1152) (h : Fin 32) (l : Fin 128) :
    qHeads y (ix3 r h l) = y (ix2 r ⟨h.val * 128 + l.val, by omega⟩) := by pointwise [qHeads]

/-- The key heads, before the normalisation. -/
def kHeads : FVec Ideal S1152x8x128 .f32 :=
  shapeCast S1152x8x128 (extractStridedSlice S1152x1024 ![0, 4096] y slices_S1152x6144_o0_4096_S1152x1024)
    shapeCasts_S1152x1024_S1152x8x128

theorem kHeads_apply (r : Fin 1152) (h : Fin 8) (l : Fin 128) :
    kHeads y (ix3 r h l) = y (ix2 r ⟨4096 + (h.val * 128 + l.val), by omega⟩) := by pointwise [kHeads]

/-- The query heads' normalisation. -/
def qNorm (u : FVec Ideal S1152x32x128 .f32) (g : Vec Ideal S1x128 .f32) : FVec Ideal S1152x32x128 .f32 :=
  mulf (mulf u (broadcastTo S1152x32x128 (rsqrt (addf (divf (shapeCast S1152x32x1
      (multiReduction .add [2] S1152x32 (mulf u u) 0x00000000#32 reduces_S1152x32x128_S1152x32 (.inl rfl) rfl)
      shapeCasts_S1152x32_S1152x32x1) (broadcast S1152x32x1 (Scalar.ofBits .f32 0x43000000#32)))
      (broadcast S1152x32x1 (Scalar.ofBits .f32 0x358637BD#32)))) broadcasts_S1152x32x1_S1152x32x128))
    (broadcastTo S1152x32x128 (shapeCast S1x1x128 (shapeCast S1x128 g shapeCasts_S1x128_S1x128) shapeCasts_S1x128_S1x1x128)
      broadcasts_S1x1x128_S1152x32x128)

theorem qNorm_apply (u : FVec Ideal S1152x32x128 .f32) (g : Vec Ideal S1x128 .f32) (r : Fin 1152) (h : Fin 32) (l : Fin 128) :
    qNorm u g (ix3 r h l) = headN (fun k => u (ix3 r h k)) (fun k => g (ix2 0 k)) l := by pointwise [qNorm, headN]

/-- The key heads' normalisation. -/
def kNorm (u : FVec Ideal S1152x8x128 .f32) (g : Vec Ideal S1x128 .f32) : FVec Ideal S1152x8x128 .f32 :=
  mulf (mulf u (broadcastTo S1152x8x128 (rsqrt (addf (divf (shapeCast S1152x8x1
      (multiReduction .add [2] S1152x8 (mulf u u) 0x00000000#32 reduces_S1152x8x128_S1152x8 (.inl rfl) rfl)
      shapeCasts_S1152x8_S1152x8x1) (broadcast S1152x8x1 (Scalar.ofBits .f32 0x43000000#32)))
      (broadcast S1152x8x1 (Scalar.ofBits .f32 0x358637BD#32)))) broadcasts_S1152x8x1_S1152x8x128))
    (broadcastTo S1152x8x128 (shapeCast S1x1x128 (shapeCast S1x128 g shapeCasts_S1x128_S1x128) shapeCasts_S1x128_S1x1x128)
      broadcasts_S1x1x128_S1152x8x128)

theorem kNorm_apply (u : FVec Ideal S1152x8x128 .f32) (g : Vec Ideal S1x128 .f32) (r : Fin 1152) (h : Fin 8) (l : Fin 128) :
    kNorm u g (ix3 r h l) = headN (fun k => u (ix3 r h k)) (fun k => g (ix2 0 k)) l := by pointwise [kNorm, headN]

theorem pay10_eq (g : Vec Ideal S1x128 .f32) : k0_pay10 a b W s g = qNorm (qHeads (k0_pay8 a b W s)) g := rfl

theorem pay11_eq (g : Vec Ideal S1x128 .f32) : k0_pay11 a b W s g = kNorm (kHeads (k0_pay8 a b W s)) g := rfl

end Projection

end Cert.Proof.Ref

end
-- ==== Proof.RefAngle.lean ====
/- What the reference's payloads hold at an index, in terms of the rows of its operands. -/
module

public import proofs.«01_k».proof.Proof.Gen.ReferenceIdeal.Skeleton
public import proofs.«01_k».proof.Proof.Rope
public import Idealize.ShloMosaic.Lib.Pointwise

@[expose] public section

set_option maxRecDepth 16384

noncomputable section

namespace Cert.Proof.Ref

open Idealize.ShloMosaic Cert.ReferenceIdeal Cert.ReferenceIdeal.Gen

section Angle

variable (p : Vec Ideal S1152x1 .i32) (f : Vec Ideal S1x64 .f32) (r : Fin 1152) (l : Fin 64)

theorem ang_apply : k0_pay12 p f (ix2 r l) = ang (p (ix2 r 0)) (f (ix2 0 l)) := by pointwise [k0_pay12, ang]

theorem turns_apply : k0_pay13 p f (ix2 r l) = turns (ang (p (ix2 r 0)) (f (ix2 0 l))) := by
  rw [← ang_apply p f r l]; pointwise [k0_pay13, turns]

theorem rest_apply : k0_pay14 p f (ix2 r l) = rest (ang (p (ix2 r 0)) (f (ix2 0 l))) := by
  rw [rest, ← turns_apply p f r l, ← ang_apply p f r l]; pointwise [k0_pay14]

theorem sq_apply : k0_pay15 p f (ix2 r l) = k0_pay14 p f (ix2 r l) * k0_pay14 p f (ix2 r l) := by pointwise [k0_pay15]

theorem sin_apply : k0_pay16 p f (ix2 r l) = sinP (rest (ang (p (ix2 r 0)) (f (ix2 0 l)))) := by
  rw [sinP, ← rest_apply p f r l, ← sq_apply p f r l]; pointwise [k0_pay16]

theorem cos_apply : k0_pay17 p f (ix2 r l) = cosP (rest (ang (p (ix2 r 0)) (f (ix2 0 l)))) := by
  rw [cosP, ← rest_apply p f r l, ← sq_apply p f r l]; pointwise [k0_pay17]

theorem quad_apply : k0_pay18 p f (ix2 r l) = quad (ang (p (ix2 r 0)) (f (ix2 0 l))) := by
  rw [quad, ← turns_apply p f r l]; rfl

theorem cosT_apply (a b : FVec Ideal S1152x64 .f32) (q : IVec S1152x64 32) :
    k0_pay20 a b q (ix3 r 0 l) = cosR (q (ix2 r l)) (a (ix2 r l)) (b (ix2 r l)) := by
  pointwise [k0_pay20, k0_pay19, cosR]

theorem sinT_apply (a b : FVec Ideal S1152x64 .f32) (q : IVec S1152x64 32) :
    k0_pay21 a b q (ix3 r 0 l) = sinR (q (ix2 r l)) (a (ix2 r l)) (b (ix2 r l)) := by
  pointwise [k0_pay21, k0_pay19, sinR]

theorem cosA_apply : k0_pay20 (k0_pay16 p f) (k0_pay17 p f) (k0_pay18 p f) (ix3 r 0 l) = cosA (ang (p (ix2 r 0)) (f (ix2 0 l))) := by
  rw [cosT_apply, sin_apply, cos_apply, quad_apply, cosA]

theorem sinA_apply : k0_pay21 (k0_pay16 p f) (k0_pay17 p f) (k0_pay18 p f) (ix3 r 0 l) = sinA (ang (p (ix2 r 0)) (f (ix2 0 l))) := by
  rw [sinT_apply, sin_apply, cos_apply, quad_apply, sinA]

end Angle

end Cert.Proof.Ref

end
-- ==== Proof.RefRope.lean ====
/- What the reference's payloads hold at an index, in terms of the rows of its operands. -/
module

public import proofs.«01_k».proof.Proof.Gen.ReferenceIdeal.Skeleton
public import proofs.«01_k».proof.Proof.Rope
public import Idealize.ShloMosaic.Lib.Pointwise

@[expose] public section

set_option maxRecDepth 16384

noncomputable section

namespace Cert.Proof.Ref

open Idealize.ShloMosaic Cert.ReferenceIdeal Cert.ReferenceIdeal.Gen

/-- The rotated query heads. -/
theorem ropeQ_apply (n : FVec Ideal S1152x32x128 .f32) (a b : FVec Ideal S1152x64 .f32) (q : IVec S1152x64 32)
    (r : Fin 1152) (h : Fin 32) (l : Fin 128) :
    k0_pay22 n a b q (ix3 r h l)
      = if hl : l.val < 64 then
          n (ix3 r h l) * k0_pay20 a b q (ix3 r 0 ⟨l.val, hl⟩)
            - n (ix3 r h ⟨64 + l.val, by omega⟩) * k0_pay21 a b q (ix3 r 0 ⟨l.val, hl⟩)
        else
          n (ix3 r h ⟨64 + (l.val - 64), by omega⟩) * k0_pay20 a b q (ix3 r 0 ⟨l.val - 64, by omega⟩)
            + n (ix3 r h ⟨l.val - 64, by omega⟩) * k0_pay21 a b q (ix3 r 0 ⟨l.val - 64, by omega⟩) := by
  pointwise [k0_pay22]

/-- The rotated key heads. -/
theorem ropeK_apply (n : FVec Ideal S1152x8x128 .f32) (a b : FVec Ideal S1152x1x64 .f32)
    (r : Fin 1152) (h : Fin 8) (l : Fin 128) :
    k0_pay1 n a b (ix3 r h l)
      = if hl : l.val < 64 then
          n (ix3 r h l) * a (ix3 r 0 ⟨l.val, hl⟩) - n (ix3 r h ⟨64 + l.val, by omega⟩) * b (ix3 r 0 ⟨l.val, hl⟩)
        else
          n (ix3 r h ⟨64 + (l.val - 64), by omega⟩) * a (ix3 r 0 ⟨l.val - 64, by omega⟩)
            + n (ix3 r h ⟨l.val - 64, by omega⟩) * b (ix3 r 0 ⟨l.val - 64, by omega⟩) := by
  pointwise [k0_pay1]

/-- The scales, folded into nine rows of 128. -/
theorem scaleOut_apply (b : FVec Ideal S1152x1 .f32) (t : Fin 9) (l : Fin 128) :
    k0_pay3 b (ix3 t 0 l) = b (ix2 ⟨t.val * 128 + l.val, by omega⟩ 0) := by pointwise [k0_pay3]

theorem vOut_apply (v : FVec Ideal S1152x8x128 .f32) (i : S1152x8x128.Idx) : k0_pay2 v i = v i := rfl

end Cert.Proof.Ref

end
-- ==== Proof.RefOut.lean ====
/- The reference's five results, entry by entry, in terms of the rows of its operands. -/
module

public import proofs.«01_k».proof.Proof.Gen.ReferenceIdeal.Frame
public import proofs.«01_k».proof.Proof.RefRow
public import proofs.«01_k».proof.Proof.RefProj
public import proofs.«01_k».proof.Proof.RefAngle
public import proofs.«01_k».proof.Proof.RefRope
public import proofs.«01_k».proof.Proof.Spec
public import Idealize.ShloMosaic.Lib.Pipeline.ValueKit

@[expose] public section

set_option maxRecDepth 16384

noncomputable section

namespace Cert.Proof.Ref

open Idealize.ShloMosaic Cert.ReferenceIdeal Cert.ReferenceIdeal.Gen

variable (x : Vec Ideal S1152x4096 .bf16) (w : Vec Ideal S1x4096 .f32) (W : Vec Ideal S4096x6144 .fp8e4m3)
  (s : Vec Ideal S1x6144 .f32) (g g' : Vec Ideal S1x128 .f32) (p : Vec Ideal S1152x1 .i32) (f : Vec Ideal S1x64 .f32)

/-- The projection's entry at a row and a column. -/
def projX (r : Fin 1152) (n : ℕ) : EReal :=
  projR (fun k => x (ix2 r k)) (fun k => w (ix2 0 k)) (fun k => W (ix2 k (colN n))) (s (ix2 0 (colN n)))

theorem projX_apply (r : Fin 1152) (n : ℕ) (c : Fin 6144) (hc : c.val = n) :
    k0_pay8 (k0_pay6 x w) (k0_pay7 x w) W s (ix2 r c) = projX x w W s r n := by
  have e : colN n = c := Fin.ext ((Nat.mod_eq_of_lt (hc ▸ c.isLt)).trans hc.symm)
  rw [proj_apply, projX, projR, e]
  simp only [code_apply, scale_apply]

/-- A head normalised and rotated. -/
def headX (base : ℕ) (r : Fin 1152) (h : ℕ) (l : Fin 128) : EReal :=
  headR (fun k => projX x w W s r ((base + h) * 128 + k.val)) (fun k => g (ix2 0 k))
    (fun e => ang (p (ix2 r 0)) (f (ix2 0 e))) l

theorem q_apply (r : Fin 1152) (h : Fin 32) (l : Fin 128) :
    k0_pay22 (k0_pay10 (k0_pay6 x w) (k0_pay7 x w) W s g) (k0_pay16 p f) (k0_pay17 p f) (k0_pay18 p f) (ix3 r h l)
      = headX x w W s g p f 0 r h.val l := by
  have hu : ∀ k : Fin 128, qHeads (k0_pay8 (k0_pay6 x w) (k0_pay7 x w) W s) (ix3 r h k)
      = projX x w W s r ((0 + h.val) * 128 + k.val) := fun k => by
    rw [qHeads_apply]; exact projX_apply x w W s r _ _ (by simp only [Nat.zero_add])
  rw [ropeQ_apply, headX, headR]
  simp only [pay10_eq, qNorm_apply, hu, cosA_apply, sinA_apply]

theorem k_apply (r : Fin 1152) (h : Fin 8) (l : Fin 128) :
    k0_pay1 (k0_pay11 (k0_pay6 x w) (k0_pay7 x w) W s g)
        (k0_pay20 (k0_pay16 p f) (k0_pay17 p f) (k0_pay18 p f)) (k0_pay21 (k0_pay16 p f) (k0_pay17 p f) (k0_pay18 p f)) (ix3 r h l)
      = headX x w W s g p f 32 r h.val l := by
  have hu : ∀ k : Fin 128, kHeads (k0_pay8 (k0_pay6 x w) (k0_pay7 x w) W s) (ix3 r h k)
      = projX x w W s r ((32 + h.val) * 128 + k.val) := fun k => by
    rw [kHeads_apply]; exact projX_apply x w W s r _ _ (show 4096 + (h.val * 128 + k.val) = _ by omega)
  rw [ropeK_apply, headX, headR]
  simp only [pay11_eq, kNorm_apply, hu, cosA_apply, sinA_apply]

theorem v_apply' (r : Fin 1152) (h : Fin 8) (l : Fin 128) :
    k0_pay2 (k0_pay9 (k0_pay6 x w) (k0_pay7 x w) W s) (ix3 r h l) = projX x w W s r ((40 + h.val) * 128 + l.val) := by
  rw [vOut_apply, v_apply]
  exact projX_apply x w W s r _ _ (show 5120 + (h.val * 128 + l.val) = _ by omega)

/-- The stored queries. -/
theorem out8_apply (r : Fin 1152) (h : Fin 32) (l : Fin 128) :
    out0_8 x w W s g g' p f (ix3 r h l) = headX x w W s g p f 0 r h.val l := by
  refine Eq.trans ?_ (q_apply x w W s g p f r h l)
  unfold_out out0_8
  frame_out

/-- The stored keys. -/
theorem out9_apply (r : Fin 1152) (h : Fin 8) (l : Fin 128) :
    out0_9 x w W s g g' p f (ix3 r h l) = headX x w W s g' p f 32 r h.val l := by
  refine Eq.trans ?_ (k_apply x w W s g' p f r h l)
  unfold_out out0_9
  frame_out

/-- The stored values. -/
theorem out10_apply (r : Fin 1152) (h : Fin 8) (l : Fin 128) :
    out0_10 x w W s g g' p f (ix3 r h l) = projX x w W s r ((40 + h.val) * 128 + l.val) := by
  refine Eq.trans ?_ (v_apply' x w W s r h l)
  unfold_out out0_10
  frame_out

/-- The stored codes. -/
theorem out11_apply (r : Fin 1152) (j : Fin 4096) :
    out0_11 x w W s g g' p f (ix2 r j) = codeR (nrmR (fun k => x (ix2 r k)) (fun k => w (ix2 0 k))) j := by
  refine Eq.trans ?_ (code_apply x w r j)
  unfold_out out0_11
  frame_out

/-- The stored scales. -/
theorem out12_apply (t : Fin 9) (l : Fin 128) :
    out0_12 x w W s g g' p f (ix3 t 0 l)
      = scaleR (nrmR (fun k => x (ix2 (rowOf t l) k)) (fun k => w (ix2 0 k))) := by
  refine Eq.trans ?_ ((scaleOut_apply (k0_pay7 x w) t l).trans (scale_apply x w (rowOf t l)))
  unfold_out out0_12
  frame_out

end Cert.Proof.Ref

end
-- ==== Proof.RefArr.lean ====
/- The reference's five result arrays, as functions of the arguments. -/
module

public import proofs.«01_k».proof.Proof.RefOut

@[expose] public section

set_option maxRecDepth 16384

noncomputable section

namespace Cert.Proof.Ref

open Idealize.ShloMosaic Idealize.SL.Sem Cert.ReferenceIdeal Cert.ReferenceIdeal.Gen
open Idealize.ShloMosaic.TcCoe

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0, 0] ∧ win0_9.index t = ![0, 0, 0]
    ∧ win0_10.index t = ![0, 0, 0] ∧ win0_11.index t = ![0, 0] ∧ win0_12.index t = ![0, 0, 0] :=
  (by decide +kernel : ∀ t : Fin grid0.N, _)

/-- The reference's table of frequencies, by position. -/
theorem lit_eq : ∀ l : Fin 64, lit0 (S64.rowMajor (ix1 l)) = lit0 l := by decide +kernel

abbrev A0 : S3x384x4096.Idx → EReal := m ((c : Thread nD τ).loc main_arg0)
abbrev A1 : S4096.Idx → EReal := m ((c : Thread nD τ).loc main_arg1)
abbrev A2 : S4096x6144.Idx → EReal := m ((c : Thread nD τ).loc main_arg2)
abbrev A3 : S6144.Idx → EReal := m ((c : Thread nD τ).loc main_arg3)
abbrev A4 : S128.Idx → EReal := m ((c : Thread nD τ).loc main_arg4)
abbrev A5 : S128.Idx → EReal := m ((c : Thread nD τ).loc main_arg5)
abbrev A6 : S3x384.Idx → BitVec 32 := m ((c : Thread nD τ).loc main_arg6)

variable (t : Fin cfg0.N)

theorem in0 (R : Fin 1152) (k : Fin 4096) : iblk m c 0 t (ix2 R k) = A0 m c (ix3 (batchOf R) (placeOf R) k) := by
  have e : iblk m c 0 t (ix2 R k) = V m c main_v1 (ix2 R k) := by
    blk_ext [iblk, idx t]
  rw [e]
  entry_read
  pointwise [batchOf, placeOf]

theorem in1 (k : Fin 4096) : iblk m c 1 t (ix2 0 k) = A1 m c (ix1 k) := by
  have e : iblk m c 1 t (ix2 0 k) = V m c main_v2 (ix2 0 k) := by
    blk_ext [iblk, idx t]
  rw [e]
  entry_read
  pointwise

theorem in2 (k : Fin 4096) (n : Fin 6144) : iblk m c 2 t (ix2 k n) = A2 m c (ix2 k n) := by
  have e : iblk m c 2 t (ix2 k n) = V m c main_arg2 (ix2 k n) := by
    blk_ext [iblk, idx t]
  rw [e, V_main_arg2]

theorem in3 (n : Fin 6144) : iblk m c 3 t (ix2 0 n) = A3 m c (ix1 n) := by
  have e : iblk m c 3 t (ix2 0 n) = V m c main_v3 (ix2 0 n) := by
    blk_ext [iblk, idx t]
  rw [e]
  entry_read
  pointwise

theorem in4 (k : Fin 128) : iblk m c 4 t (ix2 0 k) = A4 m c (ix1 k) := by
  have e : iblk m c 4 t (ix2 0 k) = V m c main_v4 (ix2 0 k) := by
    blk_ext [iblk, idx t]
  rw [e]
  entry_read
  pointwise

theorem in5 (k : Fin 128) : iblk m c 5 t (ix2 0 k) = A5 m c (ix1 k) := by
  have e : iblk m c 5 t (ix2 0 k) = V m c main_v5 (ix2 0 k) := by
    blk_ext [iblk, idx t]
  rw [e]
  entry_read
  pointwise

theorem in6 (R : Fin 1152) : iblk m c 6 t (ix2 R 0) = A6 m c (ix2 (batchOf R) (placeOf R)) := by
  have e : iblk m c 6 t (ix2 R 0) = V m c main_v6 (ix2 R 0) := by
    blk_ext [iblk, idx t]
  rw [e]
  entry_read
  pointwise [batchOf, placeOf]

theorem in7 (l : Fin 64) : iblk m c 7 t (ix2 0 l) = freqs l := by
  have e : iblk m c 7 t (ix2 0 l) = V m c main_v0 (ix2 0 l) := by
    blk_ext [iblk, idx t]
  rw [e]
  entry_read
  pointwise
  rw [freqs, ← lit_eq]
  rfl

theorem projX_eq (R : Fin 1152) (n : ℕ) :
    projX (iblk m c 0 t) (iblk m c 1 t) (iblk m c 2 t) (iblk m c 3 t) R n
      = projS (A0 m c) (A1 m c) (A2 m c) (A3 m c) R n := by
  rw [projX, projS]
  simp only [in0, in1, in2, in3]

theorem headQ_eq (base : ℕ) (R : Fin 1152) (h : ℕ) (l : Fin 128) :
    headX (iblk m c 0 t) (iblk m c 1 t) (iblk m c 2 t) (iblk m c 3 t) (iblk m c 4 t) (iblk m c 6 t) (iblk m c 7 t) base R h l
      = headS (A0 m c) (A1 m c) (A2 m c) (A3 m c) (A4 m c) (A6 m c) base R h l := by
  rw [headX, headS]
  simp only [projX_eq, in4, in6, in7]

theorem headK_eq (base : ℕ) (R : Fin 1152) (h : ℕ) (l : Fin 128) :
    headX (iblk m c 0 t) (iblk m c 1 t) (iblk m c 2 t) (iblk m c 3 t) (iblk m c 5 t) (iblk m c 6 t) (iblk m c 7 t) base R h l
      = headS (A0 m c) (A1 m c) (A2 m c) (A3 m c) (A5 m c) (A6 m c) base R h l := by
  rw [headX, headS]
  simp only [projX_eq, in5, in6, in7]

/-- The array of queries. -/
theorem arr8 : (dats m 0 c).arrAt 8 cfg0.N = qS (A0 m c) (A1 m c) (A2 m c) (A3 m c) (A4 m c) (A6 m c) := by
  refine (dats m 0 c).arrAt_eq_of_covers (8 : Fin 13) _ (by decide +kernel) fun t hf y => ?_
  change (dats m 0 c).after 8 t y = _
  obtain ⟨r, h, l, rfl⟩ : ∃ (r : Fin 1152) (h : Fin 32) (l : Fin 128), y = ix3 r h l := ⟨_, _, _, eq_ix3 y⟩
  rw [after0_8]
  refine (out8_apply _ _ _ _ _ _ _ _ r h l).trans ((headQ_eq m c t 0 r h.val l).trans ?_)
  change qS (A0 m c) (A1 m c) (A2 m c) (A3 m c) (A4 m c) (A6 m c) (ix3 r h l) = _
  blk_ext [idx t]

/-- The array of keys. -/
theorem arr9 : (dats m 0 c).arrAt 9 cfg0.N = kS (A0 m c) (A1 m c) (A2 m c) (A3 m c) (A5 m c) (A6 m c) := by
  refine (dats m 0 c).arrAt_eq_of_covers (9 : Fin 13) _ (by decide +kernel) fun t hf y => ?_
  change (dats m 0 c).after 9 t y = _
  obtain ⟨r, h, l, rfl⟩ : ∃ (r : Fin 1152) (h : Fin 8) (l : Fin 128), y = ix3 r h l := ⟨_, _, _, eq_ix3 y⟩
  rw [after0_9]
  refine (out9_apply _ _ _ _ _ _ _ _ r h l).trans ((headK_eq m c t 32 r h.val l).trans ?_)
  change kS (A0 m c) (A1 m c) (A2 m c) (A3 m c) (A5 m c) (A6 m c) (ix3 r h l) = _
  blk_ext [idx t]

/-- The array of values. -/
theorem arr10 : (dats m 0 c).arrAt 10 cfg0.N = vS (A0 m c) (A1 m c) (A2 m c) (A3 m c) := by
  refine (dats m 0 c).arrAt_eq_of_covers (10 : Fin 13) _ (by decide +kernel) fun t hf y => ?_
  change (dats m 0 c).after 10 t y = _
  obtain ⟨r, h, l, rfl⟩ : ∃ (r : Fin 1152) (h : Fin 8) (l : Fin 128), y = ix3 r h l := ⟨_, _, _, eq_ix3 y⟩
  rw [after0_10]
  refine (out10_apply _ _ _ _ _ _ _ _ r h l).trans ((projX_eq m c t r _).trans ?_)
  change vS (A0 m c) (A1 m c) (A2 m c) (A3 m c) (ix3 r h l) = _
  blk_ext [idx t]

/-- The array of codes. -/
theorem arr11 : (dats m 0 c).arrAt 11 cfg0.N = codeS (A0 m c) (A1 m c) := by
  refine (dats m 0 c).arrAt_eq_of_covers (11 : Fin 13) _ (by decide +kernel) fun t hf y => ?_
  change (dats m 0 c).after 11 t y = _
  obtain ⟨r, j, rfl⟩ : ∃ (r : Fin 1152) (j : Fin 4096), y = ix2 r j := ⟨_, _, eq_ix2 y⟩
  rw [after0_11]
  refine (out11_apply _ _ _ _ _ _ _ _ r j).trans ?_
  simp only [in0, in1]
  change codeS (A0 m c) (A1 m c) (ix2 r j) = _
  blk_ext [idx t]

/-- The array of scales. -/
theorem arr12 : (dats m 0 c).arrAt 12 cfg0.N = scaleS (A0 m c) (A1 m c) := by
  refine (dats m 0 c).arrAt_eq_of_covers (12 : Fin 13) _ (by decide +kernel) fun t hf y => ?_
  change (dats m 0 c).after 12 t y = _
  obtain ⟨z, h, l, rfl⟩ : ∃ (z : Fin 9) (h : Fin 1) (l : Fin 128), y = ix3 z h l := ⟨_, _, _, eq_ix3 y⟩
  obtain rfl : h = 0 := Subsingleton.elim _ _
  rw [after0_12]
  refine (out12_apply _ _ _ _ _ _ _ _ z l).trans ?_
  simp only [in0, in1]
  change scaleS (A0 m c) (A1 m c) (ix3 z 0 l) = _
  blk_ext [idx t]

end Cert.Proof.Ref

end
-- ==== Proof.RefRun.lean ====
/- The reference's run: each result is the given function of the arguments, and the arguments end as they were. -/
module

public import proofs.«01_k».proof.Proof.RefArr

@[expose] public section

set_option maxRecDepth 16384

noncomputable section

namespace Cert.Proof.Ref

open Idealize.ShloMosaic Idealize.SL.Sem Cert.ReferenceIdeal Cert.ReferenceIdeal.Gen
open Idealize.ShloMosaic.TcCoe

variable (m : (ℓ : Loc nD τ sig) → Buf (Elt Ideal) ℓ) (ρ : Dev nD → PrngReg)

/-- Every run of the reference ends with each result at its function of the arguments. -/
theorem run : θ_run defs (onTc (τ := τ) (main (F := Ideal))) ⟨m, fun _ => 0, ρ⟩ fun r => ∀ c : Dev nD,
      r.2.mem ((c : Thread nD τ).loc main_v7_0) = qS (A0 m c) (A1 m c) (A2 m c) (A3 m c) (A4 m c) (A6 m c)
      ∧ r.2.mem ((c : Thread nD τ).loc main_v7_1) = kS (A0 m c) (A1 m c) (A2 m c) (A3 m c) (A5 m c) (A6 m c)
      ∧ r.2.mem ((c : Thread nD τ).loc main_v7_2) = vS (A0 m c) (A1 m c) (A2 m c) (A3 m c)
      ∧ r.2.mem ((c : Thread nD τ).loc main_v7_3) = codeS (A0 m c) (A1 m c)
      ∧ r.2.mem ((c : Thread nD τ).loc main_v7_4) = scaleS (A0 m c) (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 8).trans (arr8 m c),
      ((h c).1 9).trans (arr9 m c),
      ((h c).1 10).trans (arr10 m c),
      ((h c).1 11).trans (arr11 m c),
      ((h c).1 12).trans (arr12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Proof.Ref

end
-- ==== Proof.Trig.lean ====
/- The range-reduced polynomials of the rotation against the true cosine and sine: at every angle up to 2 ^ 17 in absolute
   value they are within two millionths of them. -/
module

public import proofs.«01_k».proof.Proof.Spec
public import Mathlib.Analysis.SpecialFunctions.Trigonometric.Basic
public import Mathlib.Analysis.SpecialFunctions.Trigonometric.DerivHyp

@[expose] public section

noncomputable section

namespace Cert.Proof

open Idealize.ShloMosaic

/-! ### The constants -/

theorem ofBits_turn : Ideal.ofBits .f32 0x3F22F983#32 = ((10680707 / 16777216 : ℝ) : EReal) := by
  simp [Ideal.ofBits, Ideal.ieee]; norm_num; rw [← EReal.coe_mul]; norm_num

theorem ofBits_part1 : Ideal.ofBits .f32 0x3FC90000#32 = ((201 / 128 : ℝ) : EReal) := by
  simp [Ideal.ofBits, Ideal.ieee]; norm_num; rw [← EReal.coe_mul]; norm_num

theorem ofBits_part2 : Ideal.ofBits .f32 0x39FDA000#32 = ((2029 / 4194304 : ℝ) : EReal) := by
  simp [Ideal.ofBits, Ideal.ieee]; norm_num; rw [← EReal.coe_mul]; norm_num

theorem ofBits_part3 : Ideal.ofBits .f32 0x33A22169#32 = ((10625385 / 140737488355328 : ℝ) : EReal) := by
  simp [Ideal.ofBits, Ideal.ieee]; norm_num; rw [← EReal.coe_mul]; norm_num

/-! ### The polynomials at a small remainder -/

/-- The sine's polynomial on a real. -/
def sinQ (r : ℝ) : ℝ :=
  r + r * (r * r) * (-11184803 / 67108864 + r * r * (4473295 / 536870912 + r * r * (-13410809 / 68719476736)))

/-- The cosine's polynomial on a real. -/
def cosQ (r : ℝ) : ℝ :=
  1 - 1 / 2 * (r * r)
    + r * r * (r * r) * (11184805 / 268435456 + r * r * (-5964557 / 4294967296 + r * r * (6716135 / 274877906944)))

theorem sinP_coe (r : ℝ) : sinP (r : EReal) = (sinQ r : EReal) := by
  have h1 : Ideal.ofBits .f32 0xBE2AAAA3#32 = ((-11184803 / 67108864 : ℝ) : EReal) := by
    simp [Ideal.ofBits, Ideal.ieee]; norm_num; rw [← EReal.coe_mul]; norm_num
  have h2 : Ideal.ofBits .f32 0x3C08839E#32 = ((4473295 / 536870912 : ℝ) : EReal) := by
    simp [Ideal.ofBits, Ideal.ieee]; norm_num; rw [← EReal.coe_mul]; norm_num
  have h3 : Ideal.ofBits .f32 0xB94CA1F9#32 = ((-13410809 / 68719476736 : ℝ) : EReal) := by
    simp [Ideal.ofBits, Ideal.ieee]; norm_num; rw [← EReal.coe_mul]; norm_num
  rw [sinP, h1, h2, h3, sinQ]
  norm_cast

theorem cosP_coe (r : ℝ) : cosP (r : EReal) = (cosQ r : EReal) := by
  have h0 : Ideal.ofBits .f32 0x3F000000#32 = ((1 / 2 : ℝ) : EReal) := by
    simp [Ideal.ofBits, Ideal.ieee]; norm_num; rw [← EReal.coe_mul]; norm_num
  have h1 : Ideal.ofBits .f32 0x3D2AAAA5#32 = ((11184805 / 268435456 : ℝ) : EReal) := by
    simp [Ideal.ofBits, Ideal.ieee]; norm_num; rw [← EReal.coe_mul]; norm_num
  have h2 : Ideal.ofBits .f32 0xBAB6061A#32 = ((-5964557 / 4294967296 : ℝ) : EReal) := by
    simp [Ideal.ofBits, Ideal.ieee]; norm_num; rw [← EReal.coe_mul]; norm_num
  have h3 : Ideal.ofBits .f32 0x37CCF5CE#32 = ((6716135 / 274877906944 : ℝ) : EReal) := by
    simp [Ideal.ofBits, Ideal.ieee]; norm_num; rw [← EReal.coe_mul]; norm_num
  rw [cosP, ofBits_one, h0, h1, h2, h3, cosQ]
  norm_cast

/-- The first ten terms of the exponential series at an imaginary number. -/
theorem series (r : ℝ) : ∑ m ∈ Finset.range 10, ((r : ℂ) * Complex.I) ^ m / (m.factorial : ℂ)
    = ((1 - r ^ 2 / 2 + r ^ 4 / 24 - r ^ 6 / 720 + r ^ 8 / 40320 : ℝ) : ℂ)
      + ((r - r ^ 3 / 6 + r ^ 5 / 120 - r ^ 7 / 5040 + r ^ 9 / 362880 : ℝ) : ℂ) * Complex.I := by
  have i2 : Complex.I ^ 2 = -1 := Complex.I_sq
  have i3 : Complex.I ^ 3 = -Complex.I := by rw [pow_succ, i2]; ring
  have i4 : Complex.I ^ 4 = 1 := by rw [pow_succ, i3]; simp
  have i5 : Complex.I ^ 5 = Complex.I := by rw [pow_succ, i4]; ring
  have i6 : Complex.I ^ 6 = -1 := by rw [pow_succ, i5]; simp
  have i7 : Complex.I ^ 7 = -Complex.I := by rw [pow_succ, i6]; ring
  have i8 : Complex.I ^ 8 = 1 := by rw [pow_succ, i7]; simp
  have i9 : Complex.I ^ 9 = Complex.I := by rw [pow_succ, i8]; ring
  simp only [Finset.sum_range_succ, Finset.sum_range_zero, mul_pow, i2, i3, i4, i5, i6, i7, i8, i9, Nat.factorial]
  push_cast
  ring

theorem series_close (r : ℝ) (h : |r| ≤ 4 / 5) :
    |Real.cos r - (1 - r ^ 2 / 2 + r ^ 4 / 24 - r ^ 6 / 720 + r ^ 8 / 40320)| ≤ 1 / 10 ^ 7
      ∧ |Real.sin r - (r - r ^ 3 / 6 + r ^ 5 / 120 - r ^ 7 / 5040 + r ^ 9 / 362880)| ≤ 1 / 10 ^ 7 := by
  have hn : ‖(r : ℂ) * Complex.I‖ = |r| := by simp
  have hb := Complex.exp_bound (x := (r : ℂ) * Complex.I) (by rw [hn]; linarith) (n := 10) (by norm_num)
  rw [hn, series] at hb
  have hp : |r| ^ 10 ≤ (4 / 5) ^ 10 := pow_le_pow_left₀ (abs_nonneg r) h 10
  have hb' : ‖Complex.exp ((r : ℂ) * Complex.I) - (((1 - r ^ 2 / 2 + r ^ 4 / 24 - r ^ 6 / 720 + r ^ 8 / 40320 : ℝ) : ℂ)
      + ((r - r ^ 3 / 6 + r ^ 5 / 120 - r ^ 7 / 5040 + r ^ 9 / 362880 : ℝ) : ℂ) * Complex.I)‖ ≤ 1 / 10 ^ 7 := by
    refine hb.trans ?_
    norm_num [Nat.factorial]
    norm_num at hp
    linarith
  refine ⟨?_, ?_⟩
  · have := (Complex.abs_re_le_norm _).trans hb'
    rw [Complex.sub_re, Complex.exp_ofReal_mul_I_re, Complex.add_re, Complex.re_ofReal_mul, Complex.I_re, mul_zero,
      add_zero, Complex.ofReal_re] at this
    exact this
  · have := (Complex.abs_im_le_norm _).trans hb'
    rw [Complex.sub_im, Complex.exp_ofReal_mul_I_im, Complex.add_im, Complex.im_ofReal_mul, Complex.I_im, mul_one,
      Complex.ofReal_im, zero_add] at this
    exact this

theorem pow_small (r : ℝ) (h : |r| ≤ 793 / 1000) (n : ℕ) : |r ^ n| ≤ (793 / 1000) ^ n := by
  rw [abs_pow]; exact pow_le_pow_left₀ (abs_nonneg r) h n

theorem sinQ_close (r : ℝ) (h : |r| ≤ 793 / 1000) : |sinQ r - Real.sin r| ≤ 19 / 10 ^ 7 := by
  have hs := abs_le.1 (series_close r (h.trans (by norm_num))).2
  have h3 := abs_le.1 (pow_small r h 3)
  have h5 := abs_le.1 (pow_small r h 5)
  have h7 := abs_le.1 (pow_small r h 7)
  have h9 := abs_le.1 (pow_small r h 9)
  have e : sinQ r = r - 11184803 / 67108864 * r ^ 3 + 4473295 / 536870912 * r ^ 5 - 13410809 / 68719476736 * r ^ 7 := by
    rw [sinQ]; ring
  rw [e, abs_le]
  norm_num at h3 h5 h7 h9 hs ⊢
  constructor <;> linarith

theorem cosQ_close (r : ℝ) (h : |r| ≤ 793 / 1000) : |cosQ r - Real.cos r| ≤ 19 / 10 ^ 7 := by
  have hs := abs_le.1 (series_close r (h.trans (by norm_num))).1
  have h4 := abs_le.1 (pow_small r h 4)
  have h6 := abs_le.1 (pow_small r h 6)
  have h8 := abs_le.1 (pow_small r h 8)
  have e : cosQ r = 1 - r ^ 2 / 2 + 11184805 / 268435456 * r ^ 4 - 5964557 / 4294967296 * r ^ 6
      + 6716135 / 274877906944 * r ^ 8 := by
    rw [cosQ]; ring
  rw [e, abs_le]
  norm_num at h4 h6 h8 hs ⊢
  constructor <;> linarith

/-! ### The three parts of a quarter turn -/

/-- The cosine by the first sixteen terms of the exponential series. -/
theorem cos_sixteen (r : ℝ) (h : |r| ≤ 4 / 5) :
    |Real.cos r - (1 - r ^ 2 / 2 + r ^ 4 / 24 - r ^ 6 / 720 + r ^ 8 / 40320 - r ^ 10 / 3628800 + r ^ 12 / 479001600
      - r ^ 14 / 87178291200)| ≤ 1 / 10 ^ 14 := by
  have hn : ‖(r : ℂ) * Complex.I‖ = |r| := by simp
  have hb := Complex.exp_bound (x := (r : ℂ) * Complex.I) (by rw [hn]; linarith) (n := 16) (by norm_num)
  rw [hn] at hb
  have hp : |r| ^ 16 ≤ (4 / 5) ^ 16 := pow_le_pow_left₀ (abs_nonneg r) h 16
  have i4 : Complex.I ^ 4 = 1 := Complex.I_pow_four
  have i2 : Complex.I ^ 2 = -1 := Complex.I_sq
  have i3 : Complex.I ^ 3 = -Complex.I := by rw [pow_succ, i2]; ring
  have i5 : Complex.I ^ 5 = Complex.I := by rw [pow_succ, i4]; ring
  have i6 : Complex.I ^ 6 = -1 := by rw [pow_succ, i5]; simp
  have i7 : Complex.I ^ 7 = -Complex.I := by rw [pow_succ, i6]; ring
  have i8 : Complex.I ^ 8 = 1 := by rw [pow_succ, i7]; simp
  have i9 : Complex.I ^ 9 = Complex.I := by rw [pow_succ, i8]; ring
  have i10 : Complex.I ^ 10 = -1 := by rw [pow_succ, i9]; simp
  have i11 : Complex.I ^ 11 = -Complex.I := by rw [pow_succ, i10]; ring
  have i12 : Complex.I ^ 12 = 1 := by rw [pow_succ, i11]; simp
  have i13 : Complex.I ^ 13 = Complex.I := by rw [pow_succ, i12]; ring
  have i14 : Complex.I ^ 14 = -1 := by rw [pow_succ, i13]; simp
  have i15 : Complex.I ^ 15 = -Complex.I := by rw [pow_succ, i14]; ring
  have hs : ∑ m ∈ Finset.range 16, ((r : ℂ) * Complex.I) ^ m / (m.factorial : ℂ)
      = ((1 - r ^ 2 / 2 + r ^ 4 / 24 - r ^ 6 / 720 + r ^ 8 / 40320 - r ^ 10 / 3628800 + r ^ 12 / 479001600
        - r ^ 14 / 87178291200 : ℝ) : ℂ)
        + ((r - r ^ 3 / 6 + r ^ 5 / 120 - r ^ 7 / 5040 + r ^ 9 / 362880 - r ^ 11 / 39916800 + r ^ 13 / 6227020800
          - r ^ 15 / 1307674368000 : ℝ) : ℂ) * Complex.I := by
    simp only [Finset.sum_range_succ, Finset.sum_range_zero, mul_pow, i2, i3, i4, i5, i6, i7, i8, i9, i10, i11, i12, i13,
      i14, i15, Nat.factorial]
    push_cast
    ring
  rw [hs] at hb
  have := (Complex.abs_re_le_norm _).trans hb
  rw [Complex.sub_re, Complex.exp_ofReal_mul_I_re, Complex.add_re, Complex.re_ofReal_mul, Complex.I_re, mul_zero,
    add_zero, Complex.ofReal_re] at this
  refine this.trans ?_
  norm_num [Nat.factorial]
  norm_num at hp
  linarith

/-- The three parts of a quarter turn add up to it but for less than one part in 10 ^ 12. -/
theorem quarter_close : |(201 / 128 + 2029 / 4194304 + 10625385 / 140737488355328 - Real.pi / 2 : ℝ)| ≤ 1 / 10 ^ 12 := by
  obtain ⟨K, hK⟩ : ∃ K : ℝ, K = 201 / 128 + 2029 / 4194304 + 10625385 / 140737488355328 := ⟨_, rfl⟩
  rw [← hK]
  have h1 := Real.one_le_pi_div_two
  have h2 := Real.pi_div_two_le_two
  obtain ⟨c, hc⟩ : ∃ c : ℝ, c = Real.cos (K / 2) := ⟨_, rfl⟩
  have hcos : Real.cos K = 2 * c ^ 2 - 1 := by
    rw [hc, ← Real.cos_two_mul]; congr 1; ring
  have hh := cos_sixteen (K / 2) (by rw [hK, abs_le]; constructor <;> norm_num)
  rw [← hc, abs_le] at hh
  have hl : (70710678118653 / 10 ^ 14 : ℝ) ≤ c := by
    have := hh.1; rw [hK] at this; norm_num at this ⊢; linarith
  have hu : c ≤ (70710678118657 / 10 ^ 14 : ℝ) := by
    have := hh.2; rw [hK] at this; norm_num at this ⊢; linarith
  have hb : |Real.cos K| ≤ 1 / (2 * 10 ^ 12) := by
    rw [hcos, abs_le]
    norm_num at hl hu ⊢
    constructor <;> nlinarith
  have hd : Real.sin (K - Real.pi / 2) = -Real.cos K := Real.sin_sub_pi_div_two K
  obtain ⟨d, hde⟩ : ∃ d : ℝ, d = K - Real.pi / 2 := ⟨_, rfl⟩
  rw [← hde] at hd ⊢
  have hd1 : |d| ≤ 3 / 5 := by
    rw [hde, hK, abs_le]; constructor <;> linarith
  have hs := Real.sin_bound (x := d) (hd1.trans (by norm_num))
  have h3 : |d ^ 3| ≤ |d| * (3 / 5) ^ 2 := by
    rw [abs_pow, pow_succ']
    exact mul_le_mul_of_nonneg_left (pow_le_pow_left₀ (abs_nonneg d) hd1 2) (abs_nonneg d)
  have h5 : |d| ^ 5 ≤ |d| * (3 / 5) ^ 4 := by
    rw [pow_succ']
    exact mul_le_mul_of_nonneg_left (pow_le_pow_left₀ (abs_nonneg d) hd1 4) (abs_nonneg d)
  have hsin : |Real.sin d| ≤ 1 / (2 * 10 ^ 12) := by rw [hd, abs_neg]; exact hb
  have tri : |d| ≤ |Real.sin d| + |Real.sin d - (d - d ^ 3 / 6)| + |d ^ 3| / 6 := by
    have e : d = Real.sin d - (Real.sin d - (d - d ^ 3 / 6)) + d ^ 3 / 6 := by ring
    calc |d| = |Real.sin d - (Real.sin d - (d - d ^ 3 / 6)) + d ^ 3 / 6| := congrArg _ e
      _ ≤ |Real.sin d - (Real.sin d - (d - d ^ 3 / 6))| + |d ^ 3 / 6| := abs_add_le _ _
      _ ≤ |Real.sin d| + |Real.sin d - (d - d ^ 3 / 6)| + |d ^ 3| / 6 := by
        have := abs_sub (Real.sin d) (Real.sin d - (d - d ^ 3 / 6))
        rw [abs_div, abs_of_pos (by norm_num : (0 : ℝ) < 6)]
        linarith
  have hn := abs_nonneg d
  norm_num at h3 h5 hsin tri ⊢
  linarith

theorem sin_below (z : ℝ) (h : 0 ≤ z) : |Real.sin z| ≤ z := by
  rcases le_total 1 z with h1 | h1
  · exact (Real.abs_sin_le_one z).trans h1
  · have hs := (abs_le.1 (Real.sin_bound (x := z) (by rw [abs_of_nonneg h]; exact h1))).2
    rw [abs_of_nonneg h] at hs
    have h5 : z ^ 5 ≤ z ^ 3 := pow_le_pow_of_le_one h h1 (by norm_num)
    have h3 : 0 ≤ z ^ 3 := pow_nonneg h 3
    have h0 := Real.sin_nonneg_of_nonneg_of_le_pi h (h1.trans (by linarith [Real.two_le_pi]))
    rw [abs_of_nonneg h0]
    linarith

theorem sin_near (x y : ℝ) : |Real.sin x - Real.sin y| ≤ |x - y| := by
  have h : |Real.sin ((x - y) / 2)| ≤ |(x - y) / 2| := by
    rcases le_total 0 ((x - y) / 2) with h | h
    · rw [abs_of_nonneg h]; exact sin_below _ h
    · rw [abs_of_nonpos h, ← abs_neg, ← Real.sin_neg]; exact sin_below _ (by linarith)
  rw [Real.sin_sub_sin, abs_mul, abs_mul]
  have hc := Real.abs_cos_le_one ((x + y) / 2)
  calc |(2 : ℝ)| * |Real.sin ((x - y) / 2)| * |Real.cos ((x + y) / 2)|
      ≤ |(2 : ℝ)| * |(x - y) / 2| * 1 := by
        refine mul_le_mul (mul_le_mul_of_nonneg_left h (abs_nonneg _)) hc (abs_nonneg _) (by positivity)
    _ = |x - y| := by rw [mul_one, ← abs_mul]; congr 1; ring

theorem cos_near (x y : ℝ) : |Real.cos x - Real.cos y| ≤ |x - y| := by
  rw [← Real.sin_add_pi_div_two, ← Real.sin_add_pi_div_two y]
  exact (sin_near _ _).trans (le_of_eq (congrArg _ (by ring)))

/-! ### The reduction of the angle -/

theorem round_close (y : ℝ) : |y - (Ideal.roundHalfEven y : ℝ)| ≤ 1 / 2 := by
  have h0 := Int.floor_le y
  have h1 := Int.lt_floor_add_one y
  unfold Ideal.roundHalfEven
  rw [abs_le]
  dsimp only
  split_ifs <;> push_cast <;> constructor <;> linarith

/-- The nearest quarter turn of a real angle. -/
def turnsQ (a : ℝ) : ℤ := Ideal.roundHalfEven (a * (10680707 / 16777216))

/-- The remainder of a real angle. -/
def restQ (a : ℝ) : ℝ :=
  a - turnsQ a * (201 / 128) - turnsQ a * (2029 / 4194304) - turnsQ a * (10625385 / 140737488355328)

theorem turns_coe (a : ℝ) : turns (a : EReal) = (((turnsQ a : ℤ) : ℝ) : EReal) := by
  rw [turns, ofBits_turn, ← EReal.coe_mul]; rfl

theorem rest_coe (a : ℝ) : rest (a : EReal) = (restQ a : EReal) := by
  rw [rest, turns_coe, ofBits_part1, ofBits_part2, ofBits_part3, restQ]
  norm_cast

theorem turnsQ_small (a : ℝ) (h : |a| ≤ 2 ^ 17) : |(turnsQ a : ℝ)| ≤ 90000 := by
  have hr := abs_le.1 (round_close (a * (10680707 / 16777216)))
  have ha := abs_le.1 h
  rw [turnsQ, abs_le]
  norm_num at ha
  constructor <;> linarith

theorem restQ_small (a : ℝ) (h : |a| ≤ 2 ^ 17) : |restQ a| ≤ 793 / 1000 := by
  have hr := abs_le.1 (round_close (a * (10680707 / 16777216)))
  have ha := abs_le.1 h
  rw [restQ, turnsQ, abs_le]
  norm_num at ha
  constructor <;> linarith

/-- An angle is its remainder and its quarter turns, but for less than one part in 10 ^ 7. -/
theorem angle_close (a : ℝ) (h : |a| ≤ 2 ^ 17) : |a - (restQ a + turnsQ a * (Real.pi / 2))| ≤ 1 / 10 ^ 7 := by
  have e : a - (restQ a + turnsQ a * (Real.pi / 2))
      = turnsQ a * (201 / 128 + 2029 / 4194304 + 10625385 / 140737488355328 - Real.pi / 2) := by
    rw [restQ]; ring
  rw [e, abs_mul]
  calc _ ≤ 90000 * (1 / 10 ^ 12 : ℝ) := mul_le_mul (turnsQ_small a h) quarter_close (abs_nonneg _) (by norm_num)
    _ ≤ _ := by norm_num

theorem quad_and (a : ℝ) (h : |a| ≤ 2 ^ 17) : quad (a : EReal) &&& 3#32 = BitVec.ofInt 32 (turnsQ a % 4) := by
  have ht := abs_le.1 (turnsQ_small a h)
  have h1 : -90000 ≤ turnsQ a := by exact_mod_cast ht.1
  have h2 : turnsQ a ≤ 90000 := by exact_mod_cast ht.2
  have e : quad (a : EReal) = BitVec.ofInt 32 (turnsQ a) := by
    rw [quad, turns_coe, Ideal.fptosi, Ideal.toIntClamped_coe]
    congr 1
    simp only [Int.floor_intCast, Int.ceil_intCast, ite_self]
    omega
  have n : ∀ n : ℕ, n &&& 3 = n % 4 := fun n => Nat.and_two_pow_sub_one_eq_mod n 2
  rw [e]
  simp only [← BitVec.toNat_inj, BitVec.toNat_and, BitVec.toNat_ofInt, BitVec.toNat_ofNat, Nat.reducePow, Nat.reduceMod, n]
  omega

theorem neg_coe (x : ℝ) : Ideal.ofBits .f32 0x00000000#32 - (x : EReal) = ((-x : ℝ) : EReal) := by
  have e : Ideal.ofBits .f32 0x00000000#32 = ((0 : ℝ) : EReal) := by simp [Ideal.ofBits, Ideal.ieee]
  rw [e, ← EReal.coe_sub, zero_sub]

/-- At every real angle up to 2 ^ 17 in absolute value the cosine and the sine of the results are within two millionths of
    the true ones. -/
theorem trig_close (a : ℝ) (h : |a| ≤ 2 ^ 17) :
    ∃ c s : ℝ, cosA (a : EReal) = (c : EReal) ∧ sinA (a : EReal) = (s : EReal)
      ∧ |c - Real.cos a| ≤ 2 / 10 ^ 6 ∧ |s - Real.sin a| ≤ 2 / 10 ^ 6 := by
  have hs := sinQ_close _ (restQ_small a h)
  have hc := cosQ_close _ (restQ_small a h)
  have hd := angle_close a h
  have hsa := (sin_near a (restQ a + turnsQ a * (Real.pi / 2))).trans hd
  have hca : |Real.cos a - Real.cos (restQ a + turnsQ a * (Real.pi / 2))| ≤ 1 / 10 ^ 7 :=
    (cos_near a (restQ a + turnsQ a * (Real.pi / 2))).trans hd
  have hq := quad_and a h
  have hm := Int.emod_add_mul_ediv (turnsQ a) 4
  have hcases : turnsQ a % 4 = 0 ∨ turnsQ a % 4 = 1 ∨ turnsQ a % 4 = 2 ∨ turnsQ a % 4 = 3 := by omega
  have hturn : ∀ j : ℤ, turnsQ a % 4 = j → restQ a + turnsQ a * (Real.pi / 2)
      = restQ a + j * (Real.pi / 2) + ((turnsQ a / 4 : ℤ) : ℝ) * (2 * Real.pi) := by
    intro j hj
    have : (turnsQ a : ℝ) = j + 4 * ((turnsQ a / 4 : ℤ) : ℝ) := by
      rw [← hj]; exact_mod_cast hm.symm
    rw [this]; ring
  rw [cosA, sinA, rest_coe, sinP_coe, cosP_coe]
  simp only [cosR, sinR, select_eq, IntOp.andi, hq, neg_coe]
  rw [abs_le] at hs hc hsa hca
  norm_num at hs hc hsa hca
  rcases hcases with hj | hj | hj | hj
  · rw [hturn _ hj, Real.sin_add_int_mul_two_pi] at hsa
    rw [hturn _ hj, Real.cos_add_int_mul_two_pi] at hca
    rw [hj]
    refine ⟨cosQ (restQ a), sinQ (restQ a), by simp, by simp, ?_, ?_⟩ <;>
      norm_num at hsa hca <;> rw [abs_le] <;> norm_num <;> constructor <;> linarith
  · rw [hturn _ hj, Real.sin_add_int_mul_two_pi, Int.cast_one, one_mul, Real.sin_add_pi_div_two] at hsa
    rw [hturn _ hj, Real.cos_add_int_mul_two_pi, Int.cast_one, one_mul, Real.cos_add_pi_div_two] at hca
    rw [hj]
    refine ⟨-sinQ (restQ a), cosQ (restQ a), by simp, by simp, ?_, ?_⟩ <;>
      rw [abs_le] <;> norm_num <;> constructor <;> linarith
  · have e : restQ a + ((2 : ℤ) : ℝ) * (Real.pi / 2) = restQ a + Real.pi := by push_cast; ring
    rw [hturn _ hj, Real.sin_add_int_mul_two_pi, e, Real.sin_add_pi] at hsa
    rw [hturn _ hj, Real.cos_add_int_mul_two_pi, e, Real.cos_add_pi] at hca
    rw [hj]
    refine ⟨-cosQ (restQ a), -sinQ (restQ a), by simp, by simp, ?_, ?_⟩ <;>
      rw [abs_le] <;> norm_num <;> constructor <;> linarith
  · have e : restQ a + ((3 : ℤ) : ℝ) * (Real.pi / 2) = restQ a + Real.pi / 2 + Real.pi := by push_cast; ring
    rw [hturn _ hj, Real.sin_add_int_mul_two_pi, e, Real.sin_add_pi, Real.sin_add_pi_div_two] at hsa
    rw [hturn _ hj, Real.cos_add_int_mul_two_pi, e, Real.cos_add_pi, Real.cos_add_pi_div_two] at hca
    rw [hj]
    refine ⟨sinQ (restQ a), -cosQ (restQ a), by simp, by simp, ?_, ?_⟩ <;>
      rw [abs_le] <;> norm_num <;> constructor <;> linarith

/-! ### The angles and the heads of the results -/

theorem freq_words : ∀ e : Fin 64, (Cert.ReferenceIdeal.lit0 e).extractLsb' 31 1 = 0#1
    ∧ ¬ ((Cert.ReferenceIdeal.lit0 e).extractLsb' 23 8).toNat = 255
    ∧ ¬ ((Cert.ReferenceIdeal.lit0 e).extractLsb' 23 8).toNat = 0
    ∧ (((Cert.ReferenceIdeal.lit0 e).extractLsb' 23 8).toNat ≤ 126
      ∨ ((Cert.ReferenceIdeal.lit0 e).extractLsb' 23 8).toNat = 127
        ∧ ((Cert.ReferenceIdeal.lit0 e).extractLsb' 0 23).toNat = 0) := by
  decide +kernel

/-- The value of a positive normal f32 word. -/
theorem ieee_value (b : BitVec 32) (hs : b.extractLsb' 31 1 = 0#1) (h1 : ¬ (b.extractLsb' 23 8).toNat = 255)
    (h2 : ¬ (b.extractLsb' 23 8).toNat = 0) :
    Ideal.ofBits .f32 b = (((2 ^ 23 + ((b.extractLsb' 0 23).toNat : ℝ))
      * (2 : ℝ) ^ (((b.extractLsb' 23 8).toNat : ℤ) - 150) : ℝ) : EReal) := by
  have key : Ideal.ofBits .f32 b = (((if (b.extractLsb' (8 + 23) 1 == 1#1) = true then (-1 : ℝ) else 1)
      * ((2 ^ 23 + (b.extractLsb' 0 23).toNat : ℕ) : ℝ)
      * (2 : ℝ) ^ (((b.extractLsb' 23 8).toNat : ℤ) - (2 ^ (8 - 1) - 1) - (23 : ℕ)) : ℝ) : EReal) :=
    (if_neg h1).trans (if_neg h2)
  rw [key]
  refine EReal.coe_eq_coe_iff.mpr ?_
  have hs' : ¬ (b.extractLsb' (8 + 23) 1 == 1#1) = true := by
    rw [show b.extractLsb' (8 + 23) 1 = 0#1 from hs]; decide
  rw [if_neg hs', one_mul]
  congr 1
  · push_cast; ring
  · congr 1
    push_cast; ring

/-- Every frequency is a real between 0 and 1. -/
theorem freqs_real (e : Fin 64) : ∃ f : ℝ, freqs e = (f : EReal) ∧ 0 ≤ f ∧ f ≤ 1 := by
  obtain ⟨hs, h1, h2, h3⟩ := freq_words e
  refine ⟨_, ieee_value _ hs h1 h2, by positivity, ?_⟩
  have hf : (((Cert.ReferenceIdeal.lit0 e).extractLsb' 0 23).toNat : ℝ) ≤ 2 ^ 23 := by
    exact_mod_cast ((Cert.ReferenceIdeal.lit0 e).extractLsb' 0 23).isLt.le
  rcases h3 with h | ⟨h, h0⟩
  · have hp : (2 : ℝ) ^ ((((Cert.ReferenceIdeal.lit0 e).extractLsb' 23 8).toNat : ℤ) - 150) ≤ (2 : ℝ) ^ (-24 : ℤ) :=
      zpow_le_zpow_right₀ (by norm_num) (by omega)
    calc _ ≤ ((2 : ℝ) ^ 23 + 2 ^ 23) * (2 : ℝ) ^ (-24 : ℤ) :=
          mul_le_mul (by linarith) hp (by positivity) (by positivity)
      _ = 1 := by norm_num
  · rw [h, h0]; norm_num

/-- The angle of a position up to 2 ^ 17 in absolute value, at any of the frequencies, is a real no larger. -/
theorem ang_real (p : BitVec 32) (hp : |(p.toInt : ℝ)| ≤ 2 ^ 17) (e : Fin 64) :
    ∃ α : ℝ, ang p (freqs e) = (α : EReal) ∧ |α| ≤ 2 ^ 17 := by
  obtain ⟨f, hf, h0, h1⟩ := freqs_real e
  refine ⟨(p.toInt : ℝ) * f, ?_, ?_⟩
  · rw [ang, hf, EReal.coe_mul]; rfl
  · rw [abs_mul, abs_of_nonneg h0]
    calc |(p.toInt : ℝ)| * f ≤ 2 ^ 17 * 1 := mul_le_mul hp h1 h0 (by positivity)
      _ = 2 ^ 17 := mul_one _

/-- A head's entry `l`, rotated by true cosines and sines. -/
def headT (n : Fin 128 → ℝ) (α : Fin 64 → ℝ) (l : Fin 128) : ℝ :=
  if l.val < 64 then n l * Real.cos (α (freq l)) - n (rot l) * Real.sin (α (freq l))
  else n l * Real.cos (α (freq l)) + n (rot l) * Real.sin (α (freq l))

/-- Where a normalised head is real, its rotated entries are within two millionths of the true rotation's, relative to
    the two entries that each is made of. -/
theorem head_close (u g : Fin 128 → EReal) (n : Fin 128 → ℝ) (hn : ∀ l, headN u g l = (n l : EReal))
    (a : Fin 64 → EReal) (α : Fin 64 → ℝ) (ha : ∀ e, a e = (α e : EReal)) (hα : ∀ e, |α e| ≤ 2 ^ 17) (l : Fin 128) :
    ∃ v : ℝ, headR u g a l = (v : EReal) ∧ |v - headT n α l| ≤ 2 / 10 ^ 6 * (|n l| + |n (rot l)|) := by
  obtain ⟨c, s, hc, hs, hcc, hss⟩ := trig_close (α (freq l)) (hα (freq l))
  have b1 : |n l * (c - Real.cos (α (freq l)))| ≤ |n l| * (2 / 10 ^ 6) := by
    rw [abs_mul]; exact mul_le_mul_of_nonneg_left hcc (abs_nonneg _)
  have b2 : |n (rot l) * (s - Real.sin (α (freq l)))| ≤ |n (rot l)| * (2 / 10 ^ 6) := by
    rw [abs_mul]; exact mul_le_mul_of_nonneg_left hss (abs_nonneg _)
  have hl := l.isLt
  by_cases h : l.val < 64
  · have e1 : (⟨l.val, h⟩ : Fin 64) = freq l := Fin.ext (Nat.mod_eq_of_lt h).symm
    have e2 : (⟨64 + l.val, by omega⟩ : Fin 128) = rot l := Fin.ext (by simp only [rot]; omega)
    refine ⟨n l * c - n (rot l) * s, ?_, ?_⟩
    · rw [headR, dif_pos h, e1, e2, hn, hn, ha, hc, hs]
      norm_cast
    · rw [headT, if_pos h]
      have e : n l * c - n (rot l) * s - (n l * Real.cos (α (freq l)) - n (rot l) * Real.sin (α (freq l)))
          = n l * (c - Real.cos (α (freq l))) - n (rot l) * (s - Real.sin (α (freq l))) := by ring
      rw [e]
      exact (abs_sub _ _).trans (by linarith)
  · have e1 : (⟨l.val - 64, by omega⟩ : Fin 64) = freq l := Fin.ext (by simp only [freq]; omega)
    have e2 : (⟨l.val - 64, by omega⟩ : Fin 128) = rot l := Fin.ext (by simp only [rot]; omega)
    have e3 : (⟨64 + (l.val - 64), by omega⟩ : Fin 128) = l := Fin.ext (by simp only; omega)
    refine ⟨n l * c + n (rot l) * s, ?_, ?_⟩
    · rw [headR, dif_neg h, e1, e2, e3, hn, hn, ha, hc, hs]
      norm_cast
    · rw [headT, if_neg h]
      have e : n l * c + n (rot l) * s - (n l * Real.cos (α (freq l)) + n (rot l) * Real.sin (α (freq l)))
          = n l * (c - Real.cos (α (freq l))) + n (rot l) * (s - Real.sin (α (freq l))) := by ring
      rw [e]
      exact (abs_add_le _ _).trans (by linarith)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Pre_norm_w_finite
public import proofs.«01_k».proof.Proof.KRun
public import proofs.«01_k».proof.Proof.RefRun
public import proofs.«01_k».proof.Proof.Trig
public import Idealize.ShloMosaic.Adequacy
public import Idealize.ShloMosaic.Lib.Bf16Pair
public import Idealize.ShloMosaic.Init

@[expose] public section

noncomputable section

namespace Cert.Proof

open Idealize.ShloMosaic Idealize.SL.Sem Cert.Kernel

/-- The precondition says that every normalisation weight is at most the largest finite number in absolute value. -/
theorem weights_finite [Cert.Pre_norm_w_finite.Facts]
    (m : (ℓ : Loc Cert.KernelIdeal.nD Cert.KernelIdeal.τ Cert.KernelIdeal.sig) → Buf (Elt Ideal) ℓ)
    (h : Pre_KernelIdeal_norm_w_finite m) (c : Dev Cert.KernelIdeal.nD) (k : Fin 4096) :
    FloatOps.absf (F := Ideal) (φ := .f32) (Ker.A1 m c (ix1 k)) ≤ Ideal.ofBits .f32 0x7F7FFFFF#32 := by
  have e : Ideal.cmp .ole (FloatOps.absf (F := Ideal) (φ := .f32) (Ker.A1 m c (ix1 k))) (Ideal.ofBits .f32 0x7F7FFFFF#32) = 1 :=
    congrFun (h c) (ix1 k)
  exact (Ideal.cmp_ole_eq_one _ _).1 e

/-- From arguments that agree, with finite normalisation weights, the kernel's five results are the reference's. -/
theorem algebraic [Cert.Pre_norm_w_finite.Facts] :
    @algebraic_KernelIdeal_ReferenceIdeal_pre_norm_w_finite Cert.KernelIdeal.Gen.facts Cert.ReferenceIdeal.Gen.facts _ :=
  fun m ρ m' ρ' hpre hagree => ⟨fun c => qS (Ker.A0 m c) (Ker.A1 m c) (Ker.A2 m c) (Ker.A3 m c) (Ker.A4 m c) (Ker.A6 m c),
    fun c => kS (Ker.A0 m c) (Ker.A1 m c) (Ker.A2 m c) (Ker.A3 m c) (Ker.A5 m c) (Ker.A6 m c),
    fun c => vS (Ker.A0 m c) (Ker.A1 m c) (Ker.A2 m c) (Ker.A3 m c),
    fun c => codeS (Ker.A0 m c) (Ker.A1 m c),
    fun c => scaleS (Ker.A0 m c) (Ker.A1 m c),
    Ker.run m ρ (weights_finite m hpre),
    (θ_run Cert.ReferenceIdeal.defs _ _).mono (fun r h c => by
      obtain ⟨h0, h1, h2, h3, h4, h5, h6⟩ := hagree c
      obtain ⟨r0, r1, r2, r3, r4, rest⟩ := h c
      have e0 : Ref.A0 m' c = Ker.A0 m c := h0
      have e1 : Ref.A1 m' c = Ker.A1 m c := h1
      have e2 : Ref.A2 m' c = Ker.A2 m c := h2
      have e3 : Ref.A3 m' c = Ker.A3 m c := h3
      have e4 : Ref.A4 m' c = Ker.A4 m c := h4
      have e5 : Ref.A5 m' c = Ker.A5 m c := h5
      have e6 : Ref.A6 m' c = Ker.A6 m c := h6
      exact ⟨r0.trans (by rw [e0, e1, e2, e3, e4, e6]), r1.trans (by rw [e0, e1, e2, e3, e5, e6]),
        r2.trans (by rw [e0, e1, e2, e3]), r3.trans (by rw [e0, e1]), r4.trans (by rw [e0, e1]), rest⟩) (Ref.run m' ρ')⟩

theorem claim : Cert.Claim := ⟨Cert.Kernel.Gen.facts, Cert.KernelIdeal.Gen.facts, Cert.ReferenceIdeal.Gen.facts,
  Cert.Pre_norm_w_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  ⟨IdealRules.bf16_pair.packStatement Cert.KernelIdeal.S128x128,
   IdealRules.bf16_pair.statement Cert.KernelIdeal.S128x2x128 Cert.KernelIdeal.S128x1x128⟩,
  algebraic⟩

end Cert.Proof

end
